-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Pre_scores_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S2x128x256 : Shape := ⟨3, ![2, 128, 256]⟩
abbrev S2x2x128x512 : Shape := ⟨4, ![2, 2, 128, 512]⟩
abbrev S2x2x4 : Shape := ⟨3, ![2, 2, 4]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x64 : Shape := ⟨3, ![1, 128, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S1x1x128x512 : Shape := ⟨4, ![1, 1, 128, 512]⟩
abbrev S1x1x1 : Shape := ⟨3, ![1, 1, 1]⟩
abbrev S1x1x32x512 : Shape := ⟨4, ![1, 1, 32, 512]⟩
abbrev S32x512 : Shape := ⟨2, ![32, 512]⟩
abbrev S1x32x512 : Shape := ⟨3, ![1, 32, 512]⟩

abbrev nBuf : Space → Nat
  | .hbm => 34
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S2x128x256, .bf16⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S2x128x4x64, .bf16⟩
  | .hbm, ⟨32, _⟩ => ⟨S2x128x256, .bf16⟩
  | .hbm, ⟨33, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S2x128x512, .bf16⟩
  | .local _ .vmem, ⟨6, _⟩ => ⟨S2x128x512, .f32⟩
  | .local _ .vmem, ⟨7, _⟩ => ⟨S2x2x128x512, .bf16⟩
  | .local _ .vmem, ⟨8, _⟩ => ⟨S2x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_v13 : Ref sig .tc := ⟨.hbm, 27, rfl⟩
abbrev main_c_9 : Ref sig .tc := ⟨.hbm, 28, rfl⟩
abbrev main_c_10 : Ref sig .tc := ⟨.hbm, 29, rfl⟩
abbrev main_c_11 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_71 : BitVec 32 := 1#32
  let v103 : BitVec 32 := Scalar.muli v3 c1_i32_71
  let v104 : BitVec 32 := Scalar.addi c0_i32_72 v103
  v104.toNat
def k0_dev4 (d0 : Dev nD) : Nat :=
  let c0_i32_88 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_87 : BitVec 32 := 1#32
  let v113 : BitVec 32 := Scalar.muli v4 c1_i32_87
  let v114 : BitVec 32 := Scalar.addi c0_i32_88 v113
  v114.toNat
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_102 : BitVec 32 := 1#32
  let v123 : BitVec 32 := Scalar.muli v3 c1_i32_102
  let v124 : BitVec 32 := Scalar.addi c0_i32_103 v123
  v124.toNat
def k0_dev6 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_117 : BitVec 32 := 1#32
  let v133 : BitVec 32 := Scalar.muli v4 c1_i32_117
  let v134 : BitVec 32 := Scalar.addi c0_i32_118 v133
  v134.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_187 : BitVec 32 := 1#32
  let v232 : BitVec 32 := Scalar.muli v3 c1_i32_187
  let v233 : BitVec 32 := Scalar.addi c0_i32_188 v232
  v233.toNat
def k0_dev8 (d0 : Dev nD) : Nat :=
  let c0_i32_204 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_203 : BitVec 32 := 1#32
  let v242 : BitVec 32 := Scalar.muli v4 c1_i32_203
  let v243 : BitVec 32 := Scalar.addi c0_i32_204 v242
  v243.toNat
def k0_dev9 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_219 : BitVec 32 := 1#32
  let v252 : BitVec 32 := Scalar.muli v3 c1_i32_219
  let v253 : BitVec 32 := Scalar.addi c0_i32_220 v252
  v253.toNat
def k0_dev10 (d0 : Dev nD) : Nat :=
  let c0_i32_236 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_235 : BitVec 32 := 1#32
  let v262 : BitVec 32 := Scalar.muli v4 c1_i32_235
  let v263 : BitVec 32 := Scalar.addi c0_i32_236 v262
  v263.toNat
def k0_dev11 (d0 : Dev nD) : Nat :=
  let c0_i32_297 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_296 : BitVec 32 := 1#32
  let v299 : BitVec 32 := Scalar.muli v4 c1_i32_296
  let v300 : BitVec 32 := Scalar.addi c0_i32_297 v299
  v300.toNat
def k0_dev12 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_356 : BitVec 32 := 1#32
  let v336 : BitVec 32 := Scalar.muli v3 c1_i32_356
  let v337 : BitVec 32 := Scalar.addi c0_i32_357 v336
  v337.toNat
def k0_dev13 (d0 : Dev nD) : Nat :=
  let c0_i32_418 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_417 : BitVec 32 := 1#32
  let v373 : BitVec 32 := Scalar.muli v4 c1_i32_417
  let v374 : BitVec 32 := Scalar.addi c0_i32_418 v373
  v374.toNat
def k0_dev14 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_477 : BitVec 32 := 1#32
  let v410 : BitVec 32 := Scalar.muli v3 c1_i32_477
  let v411 : BitVec 32 := Scalar.addi c0_i32_478 v410
  v411.toNat
def k0_dev15 (d0 : Dev nD) : Nat :=
  let c0_i32_539 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_538 : BitVec 32 := 1#32
  let v447 : BitVec 32 := Scalar.muli v4 c1_i32_538
  let v448 : BitVec 32 := Scalar.addi c0_i32_539 v447
  v448.toNat
def k0_dev16 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_599 : BitVec 32 := 1#32
  let v484 : BitVec 32 := Scalar.muli v3 c1_i32_599
  let v485 : BitVec 32 := Scalar.addi c0_i32_600 v484
  v485.toNat
def k0_dev17 (d0 : Dev nD) : Nat :=
  let c0_i32_661 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_660 : BitVec 32 := 1#32
  let v521 : BitVec 32 := Scalar.muli v4 c1_i32_660
  let v522 : BitVec 32 := Scalar.addi c0_i32_661 v521
  v522.toNat
def k0_dev18 (d0 : Dev nD) : Nat :=
  let c0_i32_722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_721 : BitVec 32 := 1#32
  let v558 : BitVec 32 := Scalar.muli v3 c1_i32_721
  let v559 : BitVec 32 := Scalar.addi c0_i32_722 v558
  v559.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S2x16x128x128, .f32⟩
  | .hbm, ⟨30, _⟩ => ⟨S2x16x128x128, .bf16⟩
  | .hbm, ⟨31, _⟩ => ⟨S2x16x128x128, .f32⟩
  | .hbm, ⟨32, _⟩ => ⟨S_, .f32⟩
  | .hbm, ⟨33, _⟩ => ⟨S2x16x128x128, .f32⟩
  | .hbm, ⟨34, _⟩ => ⟨S2x16x128x128, .f32⟩
  | .hbm, ⟨35, _⟩ => ⟨S1x1x128x128, .i1⟩
  | .hbm, ⟨36, _⟩ => ⟨S_, .f32⟩
  | .hbm, ⟨37, _⟩ => ⟨S_, .f32⟩
  | .hbm, ⟨38, _⟩ => ⟨S2x16x128x128, .i1⟩
  | .hbm, ⟨39, _⟩ => ⟨S2x16x128x128, .f32⟩
  | .hbm, ⟨40, _⟩ => ⟨S2x16x128x128, .f32⟩
  | .hbm, ⟨41, _⟩ => ⟨S_, .f32⟩
  | .hbm, ⟨42, _⟩ => ⟨S2x16x128, .f32⟩
  | .hbm, ⟨43, _⟩ => ⟨S2x16x128x1, .f32⟩
  | .hbm, ⟨44, _⟩ => ⟨S2x16x128x128, .f32⟩
  | .hbm, ⟨45, _⟩ => ⟨S2x16x128x128, .f32⟩
  | .hbm, ⟨46, _⟩ => ⟨S2x16x128x128, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S2x16x128, .f32⟩
  | .hbm, ⟨52, _⟩ => ⟨S2x16x128x1, .f32⟩
  | .hbm, ⟨53, _⟩ => ⟨S_, .f32⟩
  | .hbm, ⟨54, _⟩ => ⟨S_, .f32⟩
  | .hbm, ⟨55, _⟩ => ⟨S2x16x128x1, .i1⟩
  | .hbm, ⟨56, _⟩ => ⟨S2x16x128x1, .f32⟩
  | .hbm, ⟨57, _⟩ => ⟨S2x16x128x1, .f32⟩
  | .hbm, ⟨58, _⟩ => ⟨S2x16x128x128, .f32⟩
  | .hbm, ⟨59, _⟩ => ⟨S2x16x128x128, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S2x16x128x128, .i1⟩
  | .hbm, ⟨64, _⟩ => ⟨S2x16x128x128, .f32⟩
  | .hbm, ⟨65, _⟩ => ⟨S2x16x128x128, .f32⟩
  | .hbm, ⟨66, _⟩ => ⟨S2x128x16x64, .f32⟩
  | .hbm, ⟨67, _⟩ => ⟨S2x16x64x128, .f32⟩
  | .hbm, ⟨68, _⟩ => ⟨S2x128x16x64, .f32⟩
  | .hbm, ⟨69, _⟩ => ⟨S2x128x1024, .f32⟩
  | .hbm, ⟨70, _⟩ => ⟨S1024x512, .f32⟩
  | .hbm, ⟨71, _⟩ => ⟨S2x128x512, .f32⟩
  | .hbm, ⟨72, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Program.lean ====
/- The kernel's body as a short program. The printed body is one long sequence of operations; here it is
   written with one definition per kind of step — the partial product of one batch, one transfer, one
   first-stage step, one second-stage step — each at a symbolic index, and loops over lists of indices. The
   two are equal by unfolding (`body_eq`). -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds.Family

@[expose] public section

set_option maxRecDepth 16384

noncomputable section

namespace Cert.KernelIdeal.Run

open Idealize.ShloMosaic Idealize.SL.Sem Cert.KernelIdeal Cert.KernelIdeal.Gen

variable {F : FTy → Type} [FloatOps F]

/-! ## The buffers -/

abbrev xM : Memref sig .tc .vmem S2x128x512 .bf16 := Memref.whole cc0_stg0_0
abbrev qM : Memref sig .tc .vmem S512x256 .bf16 := Memref.whole cc0_stg1_0
abbrev kM : Memref sig .tc .vmem S2x128x256 .bf16 := Memref.whole cc0_stg2_0
abbrev vM : Memref sig .tc .vmem S2x128x256 .bf16 := Memref.whole cc0_stg3_0
abbrev oM : Memref sig .tc .vmem S256x512 .bf16 := Memref.whole cc0_stg4_0
abbrev yM : Memref sig .tc .vmem S2x128x512 .bf16 := Memref.whole cc0_stg5_0
abbrev aM : Memref sig .tc .vmem S2x128x512 .f32 := Memref.whole cc0_scratch0
abbrev sM : Memref sig .tc .vmem S2x2x128x512 .bf16 := Memref.whole cc0_scratch1
abbrev rM : Memref sig .tc .vmem S2x2x128x512 .bf16 := Memref.whole cc0_scratch2

/-! ## Transfers, numbered: stage `i / 8`, batch `i / 4 % 2`, chunk `i % 4` -/

/-- Where transfer `i`'s rows lie in the send and receive buffers. -/
abbrev off (i : Fin 16) : Fin 4 → Nat := ![i.val / 8, i.val / 4 % 2, i.val % 4 * 32, 0]
/-- Where its semaphores lie in the two arrays. -/
abbrev soff (i : Fin 16) : Fin 3 → Nat := ![i.val / 8, i.val / 4 % 2, i.val % 4]
/-- Where chunk `j`'s rows lie in the accumulator and in the result. -/
abbrev aoff (j : Fin 8) : Fin 3 → Nat := ![j.val / 4, j.val % 4 * 32, 0]

theorem off_inb : ∀ i : Fin 16, ∀ a, off i a + S1x1x32x512.size a ≤ S2x2x128x512.size a := by decide
theorem soff_inb : ∀ i : Fin 16, ∀ a, soff i a + S1x1x1.size a ≤ S2x2x4.size a := by decide
theorem aoff_inb : ∀ j : Fin 8, ∀ a, aoff j a + S1x32x512.size a ≤ S2x128x512.size a := by decide

abbrev rect (i : Fin 16) : Rect S2x2x128x512 := Rect.unit (s := S2x2x128x512) (off i) S1x1x32x512.size (off_inb i)
abbrev arect (j : Fin 8) : Rect S2x128x512 := Rect.unit (s := S2x128x512) (aoff j) S1x32x512.size (aoff_inb j)

theorem rect_words : ∀ i : Fin 16, (rect i).WholeWords (EltTy.packing .bf16) := by decide
theorem rect_packed : ∀ i : Fin 16, (rect i).PackedRows (EltTy.packing .bf16) := by decide
theorem arect_packed : ∀ j : Fin 8, (arect j).PackedRows (EltTy.packing .bf16) := by decide

/-- Transfer `i`'s rows of the send buffer, and of the receive buffer. -/
abbrev sndM (i : Fin 16) : Memref sig .tc .vmem S32x512 .bf16 := (sM.slice (rect i) (fun _ => rfl)).squeeze S32x512 squeezes_S1x1x32x512_S32x512
abbrev rcvM (i : Fin 16) : Memref sig .tc .vmem S32x512 .bf16 := (rM.slice (rect i) (fun _ => rfl)).squeeze S32x512 squeezes_S1x1x32x512_S32x512

/-- Transfer `i`'s semaphores on the sender and on the receiver. -/
abbrev sS (i : Fin 16) : DmaSem sig := ((cc0_scratch3.slice (Rect.unit (s := S2x2x4) (soff i) S1x1x1.size (soff_inb i))).squeeze S_ squeezes_S1x1x1_S_).sem
abbrev rS (i : Fin 16) : DmaSem sig := ((cc0_scratch4.slice (Rect.unit (s := S2x2x4) (soff i) S1x1x1.size (soff_inb i))).squeeze S_ squeezes_S1x1x1_S_).sem

theorem snd_words (i : Fin 16) : (sndM i).view.WordExact :=
  ((Memref.isWhole_whole cc0_scratch1).wordExact_slice rfl _ (rect_words i)).reshape _ _
theorem rcv_words (i : Fin 16) : (rcvM i).view.WordExact :=
  ((Memref.isWhole_whole cc0_scratch2).wordExact_slice rfl _ (rect_words i)).reshape _ _

/-- The device transfer `i` of device `c` goes to, as the kernel computes it. -/
def dvs (c : Dev nD) : Fin 16 → Dev nD :=
  ![⟨k0_dev3 c, k0_dev3_lt c⟩, ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩]

/-- Chunk `j`'s transfers of the first and of the second stage. -/
abbrev st0 (j : Fin 8) : Fin 16 := ⟨j.val, by omega⟩
abbrev st1 (j : Fin 8) : Fin 16 := ⟨8 + j.val, by omega⟩

/-! ## The values stored -/

/-- A chunk of the accumulator after the first stage: what it held plus what arrived. -/
def accPay (v : Vec F S1x32x512 .f32) (w : Vec F S1x1x32x512 .bf16) : FVec F S1x32x512 .f32 :=
  shapeCast S1x32x512 (addf (shapeCast S32x512 v shapeCasts_S1x32x512_S32x512)
    (extf .f32 (shapeCast S32x512 w shapeCasts_S1x1x32x512_S32x512) bitsLt_bf16_f32)) shapeCasts_S32x512_S1x32x512

/-- The same rounded, as the second stage sends it. -/
def sndPay (v : Vec F S1x32x512 .f32) (w : Vec F S1x1x32x512 .bf16) : FVec F S1x1x32x512 .bf16 :=
  shapeCast S1x1x32x512 (truncf .bf16 (addf (shapeCast S32x512 v shapeCasts_S1x32x512_S32x512)
    (extf .f32 (shapeCast S32x512 w shapeCasts_S1x1x32x512_S32x512) bitsLt_bf16_f32)) bitsLt_bf16_f32) shapeCasts_S32x512_S1x1x32x512

/-- One head: the queries' columns from `o`, against the head's keys and values. -/
def headP (o : Nat) (ho : S128x256.Slices ![0, o] S128x64) (q : FVec F S128x256 .f32) (k v : Vec F S1x128x64 .bf16) : FVec F S128x64 .f32 :=
  have w : FVec F S128x128 .f32 := exp (mulf (matmul dot_S128x64_S64x128_S128x128_1_0_0_1_n_n none
      (truncf .bf16 (extractStridedSlice S128x64 ![0, o] q ho) bitsLt_bf16_f32)
      (transpose S64x128 [1, 0] (shapeCast S128x64 k shapeCasts_S1x128x64_S128x64) transposes_S128x64_p1_0_S64x128)
      (constant S128x128 .f32 0x00000000#32)) (broadcast S128x128 (Scalar.ofBits .f32 0x3E000000#32)))
  have t : FVec F S128x1 .f32 := shapeCast S128x1 (multiReduction .add [1] S128 w 0x00000000#32 reduces_S128x128_S128 (.inl rfl) rfl) shapeCasts_S128_S128x1
  matmul dot_S128x128_S128x64_S128x64_1_0_0_1_n_n none
    (truncf .bf16 (mulf w (broadcastTo S128x128 (divf (broadcast S128x1 (Scalar.ofBits .f32 0x3F800000#32)) t) broadcasts_S128x1_S128x128)) bitsLt_bf16_f32)
    (shapeCast S128x64 v shapeCasts_S1x128x64_S128x64) (constant S128x64 .f32 0x00000000#32)

/-- The queries of one batch. -/
def qPay (wq : Vec F S512x256 .bf16) (x : Vec F S1x128x512 .bf16) : FVec F S128x256 .f32 :=
  matmul dot_S128x512_S512x256_S128x256_1_0_0_1_n_n none (shapeCast S128x512 x shapeCasts_S1x128x512_S128x512)
    (shapeCast S512x256 wq shapeCasts_S512x256_S512x256) (constant S128x256 .f32 0x00000000#32)

/-- One batch's partial product: the four heads of this device against its rows of the output matrix. -/
def pbPay (wq : Vec F S512x256 .bf16) (wo : Vec F S256x512 .bf16) (x : Vec F S1x128x512 .bf16)
    (k0 v0 k1 v1 k2 v2 k3 v3 : Vec F S1x128x64 .bf16) : FVec F S128x512 .f32 :=
  matmul dot_S128x256_S256x512_S128x512_1_0_0_1_n_n none
    (truncf .bf16 (concatenate S128x256 1
      [⟨S128x64, headP 0 slices_S128x256_o0_0_S128x64 (qPay wq x) k0 v0⟩, ⟨S128x64, headP 64 slices_S128x256_o0_64_S128x64 (qPay wq x) k1 v1⟩,
       ⟨S128x64, headP 128 slices_S128x256_o0_128_S128x64 (qPay wq x) k2 v2⟩, ⟨S128x64, headP 192 slices_S128x256_o0_192_S128x64 (qPay wq x) k3 v3⟩]
      concatenates_S128x64_S128x64_S128x64_S128x64_S128x256_d1) bitsLt_bf16_f32)
    (shapeCast S256x512 wo shapeCasts_S256x512_S256x512) (constant S128x512 .f32 0x00000000#32)

/-! ## The steps -/

abbrev P (F : FTy → Type) := Prog (TpuEff nD τ sig (Elt F) Λ₀ .tc)

/-- Start transfer `i`. -/
def sendP (c : Dev nD) (i : Fin 16) : P F PUnit :=
  Prog.lift (.enqueueDma (sndM i) (.remote (Dev.tc (dvs c i)) (rcvM i) (.dma (sS i))) (.dma (rS i)) (snd_words i) (rcv_words i) ⟨⟨rfl, Or.inl rfl⟩, trivial⟩)

def sendAll (c : Dev nD) : List (Fin 16) → P F PUnit
  | [] => pure ⟨⟩
  | i :: l => do sendP c i; sendAll c l

/-- Wait until transfer `i` has been read, then until the partner's transfer `i` has landed. -/
def waitP (i : Fin 16) : P F PUnit := do
  Prog.lift (.waitDma2 (sS i) (rcvM i) (sndM i) (rcv_words i) (snd_words i))
  Prog.lift (.waitDma2 (rS i) (sndM i) (rcvM i) (snd_words i) (rcv_words i))

/-- First-stage step `j`: add the chunk that arrived, and send the sum on. -/
def stageP (c : Dev nD) (j : Fin 8) : P F PUnit := do
  waitP (st0 j)
  let v : Vec F S1x32x512 .f32 ← Prog.lift (.load aM (arect j).toLoadRect (View.loadsAt_vmem h_S1x32x512))
  let w : Vec F S1x1x32x512 .bf16 ← Prog.lift (.load rM (rect (st0 j)).toLoadRect (View.loadsAt_vmem h_S1x1x32x512))
  let _u : Vec F S1x32x512 .f32 ← Prog.lift (.load aM (arect j).toLoadRect (View.loadsAt_vmem h_S1x32x512))
  Prog.lift (.store aM (arect j) (accPay v w) Finset.univ (View.stores_vmem_bits_univ h_S1x32x512 rfl) (.inl rfl))
  let _z : Vec F S1x1x32x512 .bf16 ← Prog.lift (.load sM (rect (st1 j)).toLoadRect (View.loadsAt_vmem h_S1x1x32x512))
  Prog.lift (.store sM (rect (st1 j)) (sndPay v w) Finset.univ
    (View.stores_vmem h_S1x1x32x512 ((Memref.isWhole_whole cc0_scratch1).storeExact_slice rfl _ (rect_packed (st1 j))) (fun _ => rfl)) (.inl rfl))
  sendP c (st1 j)

def stageAll (c : Dev nD) : List (Fin 8) → P F PUnit
  | [] => pure ⟨⟩
  | j :: l => do stageP c j; stageAll c l

/-- Second-stage step `j`: add the chunk that arrived into the result. -/
def finalP (j : Fin 8) : P F PUnit := do
  waitP (st1 j)
  let v : Vec F S1x32x512 .f32 ← Prog.lift (.load aM (arect j).toLoadRect (View.loadsAt_vmem h_S1x32x512))
  let w : Vec F S1x1x32x512 .bf16 ← Prog.lift (.load rM (rect (st1 j)).toLoadRect (View.loadsAt_vmem h_S1x1x32x512))
  let _u : Vec F S1x32x512 .bf16 ← Prog.lift (.load yM (arect j).toLoadRect (View.loadsAt_vmem h_S1x32x512))
  Prog.lift (.store yM (arect j) (k0_pay1 v w) Finset.univ
    (View.stores_vmem h_S1x32x512 ((Memref.isWhole_whole cc0_stg5_0).storeExact_slice rfl _ (arect_packed j)) (fun _ => rfl)) (.inl rfl))

def finalAll : List (Fin 8) → P F PUnit
  | [] => pure ⟨⟩
  | j :: l => do finalP j; finalAll l

/-- The rows of batch `b` in the arguments, the accumulator and the send buffer. -/
abbrev brect (b : Fin 2) : Rect S2x128x512 := Rect.unit (s := S2x128x512) ![b.val, 0, 0] S1x128x512.size (by revert b; decide)
abbrev sbrect (b : Fin 2) : Rect S2x2x128x512 := Rect.unit (s := S2x2x128x512) ![0, b.val, 0, 0] S1x1x128x512.size (by revert b; decide)
/-- Head `h` of batch `b` in the keys and the values. -/
abbrev krect (b : Fin 2) (h : Fin 4) : Rect S2x128x256 := Rect.unit (s := S2x128x256) ![b.val, 0, 64 * h.val] S1x128x64.size (by revert b h; decide)

theorem sbrect_packed : ∀ b : Fin 2, (sbrect b).PackedRows (EltTy.packing .bf16) := by decide

def loadK (b : Fin 2) (h : Fin 4) : P F (Vec F S1x128x64 .bf16) := Prog.lift (.load kM (krect b h).toLoadRect (View.loadsAt_vmem h_S1x128x64))
def loadV (b : Fin 2) (h : Fin 4) : P F (Vec F S1x128x64 .bf16) := Prog.lift (.load vM (krect b h).toLoadRect (View.loadsAt_vmem h_S1x128x64))

/-- The partial product of batch `b`, into the accumulator and, rounded, the send buffer. -/
def attnP (b : Fin 2) (wq : Vec F S512x256 .bf16) (wo : Vec F S256x512 .bf16) : P F PUnit := do
  let x : Vec F S1x128x512 .bf16 ← Prog.lift (.load xM (brect b).toLoadRect (View.loadsAt_vmem h_S1x128x512))
  let k0 ← loadK b 0
  let v0 ← loadV b 0
  let k1 ← loadK b 1
  let v1 ← loadV b 1
  let k2 ← loadK b 2
  let v2 ← loadV b 2
  let k3 ← loadK b 3
  let v3 ← loadV b 3
  let _u : Vec F S1x128x512 .f32 ← Prog.lift (.load aM (brect b).toLoadRect (View.loadsAt_vmem h_S1x128x512))
  Prog.lift (.store aM (brect b) (shapeCast S1x128x512 (pbPay wq wo x k0 v0 k1 v1 k2 v2 k3 v3) shapeCasts_S128x512_S1x128x512) Finset.univ
    (View.stores_vmem_bits_univ h_S1x128x512 rfl) (.inl rfl))
  let _z : Vec F S1x1x128x512 .bf16 ← Prog.lift (.load sM (sbrect b).toLoadRect (View.loadsAt_vmem h_S1x1x128x512))
  Prog.lift (.store sM (sbrect b) (shapeCast S1x1x128x512 (truncf .bf16 (pbPay wq wo x k0 v0 k1 v1 k2 v2 k3 v3) bitsLt_bf16_f32) shapeCasts_S128x512_S1x1x128x512) Finset.univ
    (View.stores_vmem h_S1x1x128x512 ((Memref.isWhole_whole cc0_scratch1).storeExact_slice rfl _ (sbrect_packed b)) (fun _ => rfl)) (.inl rfl))

/-- The barrier semaphore. -/
abbrev barS : Sem sig := (SemArray.scalar (sig.barrier 0 rfl) : Sems sig S_).sem

/-- The body from the device's number on. -/
def restP (c : Dev nD) : P F PUnit := do
  semSignalWord (⟨k0_dev1 c, k0_dev1_lt c⟩ : Dev nD) barS 1#32
  semSignalWord (⟨k0_dev2 c, k0_dev2_lt c⟩ : Dev nD) barS 1#32
  let wq : Vec F S512x256 .bf16 ← Prog.lift (.load qM (Rect.unit (s := S512x256) ![0, 0] S512x256.size inb_S512x256_S512x256_0_0).toLoadRect (View.loadsAt_vmem h_S512x256))
  let wo : Vec F S256x512 .bf16 ← Prog.lift (.load oM (Rect.unit (s := S256x512) ![0, 0] S256x512.size inb_S256x512_S256x512_0_0).toLoadRect (View.loadsAt_vmem h_S256x512))
  attnP 0 wq wo
  semWaitWord barS 2#32
  sendAll c [0, 1, 2, 3]
  attnP 1 wq wo
  sendAll c [4, 5, 6, 7]
  stageAll c [0, 1, 2, 3, 4, 5, 6, 7]
  finalAll [0, 1, 2, 3, 4, 5, 6, 7]

def bodyP : P F PUnit := do
  let c : Dev nD ← Prog.lift .deviceId
  restP c

set_option maxHeartbeats 1000000 in
/-- The printed body is the short program: both, written out as one sequence of operations, agree by unfolding. -/
theorem body_eq : cc0_body (F := F) xM (Memref.isWhole_whole _) qM (Memref.isWhole_whole _) kM (Memref.isWhole_whole _) vM (Memref.isWhole_whole _)
    oM (Memref.isWhole_whole _) yM (Memref.isWhole_whole _) aM (Memref.isWhole_whole _) sM (Memref.isWhole_whole _) rM (Memref.isWhole_whole _)
    cc0_scratch3 cc0_scratch4 = bodyP := by
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton,
    k0_part5_skel, k0_part6_eq_skeleton, k0_part6_skel, k0_part7_eq_skeleton, k0_part7_skel,
    k0_part8_eq_skeleton, k0_part8_skel, k0_part9_eq_skeleton, k0_part9_skel, k0_part10_eq_skeleton,
    k0_part10_skel, k0_part11_eq_skeleton, k0_part11_skel, k0_part12_eq_skeleton, k0_part12_skel,
    k0_part13_eq_skeleton, k0_part13_skel, k0_part14_eq_skeleton, k0_part14_skel, k0_part15_eq_skeleton,
    k0_part15_skel, k0_part16_eq_skeleton, k0_part16_skel, k0_part17_eq_skeleton, k0_part17_skel,
    k0_part18_eq_skeleton, k0_part18_skel, k0_part19_eq_skeleton, k0_part19_skel, k0_part20_eq_skeleton,
    k0_part20_skel, k0_part21_eq_skeleton, k0_part21_skel, k0_part22_eq_skeleton, k0_part22_skel,
    k0_part23_eq_skeleton, k0_part23_skel, k0_part24_eq_skeleton, k0_part24_skel, k0_part25_eq_skeleton,
    k0_part25_skel, k0_part26_eq_skeleton, k0_part26_skel, k0_part27_eq_skeleton, k0_part27_skel,
    k0_part28_eq_skeleton, k0_part28_skel, k0_part29_eq_skeleton, k0_part29_skel, k0_part30_eq_skeleton,
    k0_part30_skel, k0_part31_eq_skeleton, k0_part31_skel, k0_part32_eq_skeleton, k0_part32_skel, Prog.lift,
    Prog.bind_op, Prog.bind_ret, Prog.pure_eq_ret, Prog.bind_assoc, bodyP, restP, attnP, loadK, loadV,
    sendAll, sendP, stageAll, stageP, waitP, finalAll, finalP]
  rfl

end Cert.KernelIdeal.Run

end
-- ==== Proof.Protocol.lean ====
/- The protocol of the run: who signals whom, what each semaphore hands over, what each device owes and the order
   in which it may wait. One barrier cell and sixteen send and sixteen receive cells per device, each with one
   round of duties. What the send and receive cells hand over is stated with contents: `S d`, what device `d`
   has in its send buffer when it sends, is a parameter here. -/
module

public import proofs.«01_k».proof.Proof.Program
public import Idealize.ShloMosaic.Lib.Rounds
public import Idealize.ShloMosaic.Lib.Rounds.Family
public import Idealize.ShloMosaic.Lib.Pipeline.Launch
public import Idealize.ShloMosaic.Lib.Pipeline.Kit
public import Idealize.ShloMosaic.Lib.Pipeline.BigSepL
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: each device has two partners -/

set_option backward.proofsInPublic true in
/-- The two partners: `c` with its last bit flipped, and `3 - c`. -/
def pa (c : Dev nD) : Dev nD := ⟨![1, 0, 3, 2] c, by revert c; decide⟩
set_option backward.proofsInPublic true in
def pb (c : Dev nD) : Dev nD := ⟨3 - c.val, by revert c; decide⟩

def par (b : Bool) (c : Dev nD) : Dev nD := if b then pa c else pb c
theorem par_par : ∀ (b : Bool) (c : Dev nD), par b (par b c) = c := by decide

/-- Which partner transfer `i` goes to. -/
def side (i : Fin 16) : Bool := (i.val % 2 + i.val / 8) % 2 == 0
abbrev tgt (i : Fin 16) (c : Dev nD) : Dev nD := par (side i) c
theorem tgt_tgt (i : Fin 16) (c : Dev nD) : tgt i (tgt i c) = c := par_par _ _

theorem dev1_eq : ∀ c : Dev nD, (⟨k0_dev1 c, k0_dev1_lt c⟩ : Dev nD) = par true c := by decide
theorem dev2_eq : ∀ c : Dev nD, (⟨k0_dev2 c, k0_dev2_lt c⟩ : Dev nD) = par false c := by decide
theorem dvs_eq : ∀ (c : Dev nD) (i : Fin 16), dvs c i = tgt i c := by decide

/-- Exchanging every device with its partner, as an equivalence. -/
def swap (b : Bool) : Dev nD ≃ Dev nD := ⟨par b, par b, par_par b, par_par b⟩

/-! ## Cells -/

abbrev barCell (c : Dev nD) : GSem nD τ sig := ((c : Thread nD τ), .reg barS)
abbrev sendCell (c : Dev nD) (i : Fin 16) : GSem nD τ sig := ((c : Thread nD τ), .dma (sS i))
abbrev recvCell (c : Dev nD) (i : Fin 16) : GSem nD τ sig := ((c : Thread nD τ), .dma (rS i))

/-- What a semaphore is for. -/
inductive Kind' where
  | bar
  | send (i : Fin 16)
  | recv (i : Fin 16)
  | none

def kind : SemLoc sig → Kind'
  | .reg _ => .bar
  | .dma q => if h : 6 ≤ q.val ∧ q.val < 22 then .send ⟨q.val - 6, by omega⟩ else if h : 22 ≤ q.val ∧ q.val < 38 then .recv ⟨q.val - 22, by omega⟩ else .none

theorem sS_val : ∀ i : Fin 16, (sS i).val = 6 + i.val := by decide
theorem rS_val : ∀ i : Fin 16, (rS i).val = 22 + i.val := by decide

theorem kind_bar (s : Sem sig) : kind (.reg s) = .bar := rfl
theorem kind_send (i : Fin 16) : kind (.dma (sS i)) = .send i := by
  have h := sS_val i
  show (if h : 6 ≤ (sS i).val ∧ (sS i).val < 22 then Kind'.send ⟨(sS i).val - 6, by omega⟩ else if h : 22 ≤ (sS i).val ∧ (sS i).val < 38 then Kind'.recv ⟨(sS i).val - 22, by omega⟩ else Kind'.none) = _
  rw [dif_pos (by omega)]; exact congrArg _ (Fin.ext (by simp only; omega))
theorem kind_recv (i : Fin 16) : kind (.dma (rS i)) = .recv i := by
  have h := rS_val i
  show (if h : 6 ≤ (rS i).val ∧ (rS i).val < 22 then Kind'.send ⟨(rS i).val - 6, by omega⟩ else if h : 22 ≤ (rS i).val ∧ (rS i).val < 38 then Kind'.recv ⟨(rS i).val - 22, by omega⟩ else Kind'.none) = _
  rw [dif_neg (by omega), dif_pos (by omega)]; exact congrArg _ (Fin.ext (by simp only; omega))

/-- What one transfer moves, as its semaphores count it. -/
abbrev N : ℕ := (sndM (0 : Fin 16)).view.dmaCredit
theorem N_pos : 0 < N := View.dmaCredit_pos _ (by decide)
theorem snd_credit (i : Fin 16) : (sndM i).view.dmaCredit = N := rfl
theorem rcv_credit (i : Fin 16) : (rcvM i).view.dmaCredit = N := rfl

/-! ## Points-tos of the buffers and of a transfer's rows -/

/-- Contents of the send and of the receive buffer. -/
abbrev Cont (F : FTy → Type) : Type := (cc0_scratch1 : Ref sig .tc).ty.Contents (Elt F)

abbrev pt (c : Dev nD) (b : Ref sig .tc) (f : b.ty.Contents (Elt F)) : sProp 𝕄 := ((c : Thread nD τ).loc b) ↦{fullShare} f

def sPt (c : Dev nD) (i : Fin 16) (f : Cont F) : sProp 𝕄 := ((c : Thread nD τ).loc cc0_scratch1) ↦[(rect i).set]{fullShare} f
def rPt (c : Dev nD) (i : Fin 16) (f : Cont F) : sProp 𝕄 := ((c : Thread nD τ).loc cc0_scratch2) ↦[(rect i).set]{fullShare} f

instance sPt_storable (c : Dev nD) (i) (f) : BI.Storable (upEmb : UEmb _ 𝕄) (sPt (F := F) c i f) := by unfold sPt; infer_instance
instance rPt_storable (c : Dev nD) (i) (f) : BI.Storable (upEmb : UEmb _ 𝕄) (rPt (F := F) c i f) := by unfold rPt; infer_instance

theorem snd_set (i : Fin 16) : (sndM i).view.set = (rect i).set := by
  show (((View.whole cc0_scratch1).slice (rect i)).reshape _ _).set = _
  rw [View.set_reshape, View.set_slice_whole]
theorem rcv_set (i : Fin 16) : (rcvM i).view.set = (rect i).set := by
  show (((View.whole cc0_scratch2).slice (rect i)).reshape _ _).set = _
  rw [View.set_reshape, View.set_slice_whole]

/-- The transfer that covers an element of the send buffer. -/
def slot (x : S2x2x128x512.Idx) : Fin 16 := ⟨8 * (x 0).val + 4 * (x 1).val + (x 2).val / 32, by
  have h0 : (x 0).val < 2 := (x 0).isLt
  have h1 : (x 1).val < 2 := (x 1).isLt
  have h2 : (x 2).val < 128 := (x 2).isLt
  omega⟩

theorem mem_rect (i : Fin 16) (x : S2x2x128x512.Idx) : x ∈ (rect i).set ↔ slot x = i := by
  have h0 : (x 0).val < 2 := (x 0).isLt
  have h1 : (x 1).val < 2 := (x 1).isLt
  have h2 : (x 2).val < 128 := (x 2).isLt
  have h3 : (x 3).val < 512 := (x 3).isLt
  have hi := i.isLt
  rw [Rect.mem_set_unit]
  constructor
  · intro h
    have a0 := h 0; have a1 := h 1; have a2 := h 2
    simp only [Matrix.cons_val_zero, Matrix.cons_val_one, Matrix.cons_val] at a0 a1 a2
    exact Fin.ext (by simp only [slot]; omega)
  · intro h
    have e := congrArg Fin.val h
    simp only [slot] at e
    intro a
    fin_cases a <;> simp <;> omega

theorem rect_disjoint (T : Finset (Fin 16)) : ∀ t ∈ T, ∀ t' ∈ T, t ≠ t' → Disjoint (rect t).set (rect t').set := fun t _ t' _ hne =>
  Finset.disjoint_left.mpr fun x h h' => hne (((mem_rect t x).mp h).symm.trans ((mem_rect t' x).mp h'))

/-- The rows of a set of transfers. -/
def rows (T : Finset (Fin 16)) : Finset S2x2x128x512.Idx := T.biUnion fun i => (rect i).set
theorem mem_rows (T : Finset (Fin 16)) (x : S2x2x128x512.Idx) : x ∈ rows T ↔ slot x ∈ T := by
  unfold rows; rw [Finset.mem_biUnion]
  exact ⟨fun ⟨i, hi, hx⟩ => ((mem_rect i x).mp hx) ▸ hi, fun h => ⟨_, h, (mem_rect _ x).mpr rfl⟩⟩
theorem rows_univ : rows Finset.univ = Finset.univ := Finset.eq_univ_iff_forall.mpr fun x => (mem_rows _ x).mpr (Finset.mem_univ _)

theorem sPt_rows (c : Dev nD) (T : Finset (Fin 16)) (f : Cont F) :
    (((c : Thread nD τ).loc cc0_scratch1) ↦[rows T]{fullShare} f : sProp 𝕄) = bigSep T fun i => sPt c i f :=
  pointsTo_biUnion T _ (rect_disjoint T)
theorem rPt_rows (c : Dev nD) (T : Finset (Fin 16)) (f : Cont F) :
    (((c : Thread nD τ).loc cc0_scratch2) ↦[rows T]{fullShare} f : sProp 𝕄) = bigSep T fun i => rPt c i f :=
  pointsTo_biUnion T _ (rect_disjoint T)
theorem sPt_whole (c : Dev nD) (f : Cont F) : (pt c cc0_scratch1 f : sProp 𝕄) = bigSep Finset.univ fun i => sPt c i f := by
  rw [← sPt_rows, rows_univ]
theorem rPt_whole (c : Dev nD) (f : Cont F) : (pt c cc0_scratch2 f : sProp 𝕄) = bigSep Finset.univ fun i => rPt c i f := by
  rw [← rPt_rows, rows_univ]

theorem sPt_congr (c : Dev nD) (i : Fin 16) {f g : Cont F} (h : ∀ x, slot x = i → f x = g x) : (sPt c i f : sProp 𝕄) = sPt c i g :=
  pointsTo_congr fun x hx => h x ((mem_rect i x).mp hx)
theorem rPt_congr (c : Dev nD) (i : Fin 16) {f g : Cont F} (h : ∀ x, slot x = i → f x = g x) : (rPt c i f : sProp 𝕄) = rPt c i g :=
  pointsTo_congr fun x hx => h x ((mem_rect i x).mp hx)

/-- What the receive buffer of `d` holds once everything has landed: at each element, what the partner of that
    element's transfer sent. -/
def rcvF (S : Dev nD → Cont F) (d : Dev nD) : Cont F := fun x => S (tgt (slot x) d) x

/-- A landed transfer: on its rows, what the sender had there. -/
theorem landed_at (i : Fin 16) (fd fs : Cont F) (x : S2x2x128x512.Idx) (hx : slot x = i) :
    (rcvM i).view.write (Elt F) fd ((sndM i).view.read (Elt F) fs) Finset.univ x = fs x := by
  have hm : x ∈ (rcvM i).view.set := by rw [rcv_set]; exact (mem_rect i x).mpr hx
  obtain ⟨y, -, rfl⟩ := Finset.mem_map.mp hm
  rw [View.write_emb_of_mem _ _ (Finset.mem_univ y), View.read_apply]
  rfl

/-! ## The schedule -/

variable (S : Dev nD → Cont F)

/-- One transfer's destination rows on the partner, and that the partner's receive cell is open. -/
def dest (p : Dev nD) (i : Fin 16) : sProp 𝕄 := iprop((∃ f, rPt p i f) ∗ reached ER (recvCell p i) 0)

instance dest_storable (p : Dev nD) (i) : BI.Storable (upEmb : UEmb _ 𝕄) (dest (F := F) p i) := by unfold dest; infer_instance

def barL : Bool → List (Fin 16)
  | true => [0, 2, 4, 6, 9, 11, 13, 15]
  | false => [1, 3, 5, 7, 8, 10, 12, 14]

theorem barL_side : ∀ b, ∀ i ∈ barL b, side i = b := by decide

/-- What a barrier signal hands over: the signaller's rows for every transfer between the two. -/
def barPay (b : Bool) (d : Dev nD) : sProp 𝕄 := bigSepL (barL b) fun i => dest (par b d) i

theorem bigSepL_storable {l : List (Fin 16)} {Φ : Fin 16 → sProp 𝕄} (h : ∀ i, BI.Storable (upEmb : UEmb _ 𝕄) (Φ i)) :
    BI.Storable (upEmb : UEmb _ 𝕄) (bigSepL l Φ) := by
  induction l with
  | nil => show BI.Storable upEmb iprop(emp); infer_instance
  | cons i l ih => rw [bigSepL_cons']; infer_instance

instance barPay_storable (b) (d : Dev nD) : BI.Storable (upEmb : UEmb _ 𝕄) (barPay (F := F) b d) :=
  bigSepL_storable fun i => dest_storable _ i

def rd : Rounds.Schedule (GSem nD τ sig) Bool 𝕄 where
  duties g r := if r = 0 ∧ g.1.2 = .tc then (match kind g.2 with | .bar => Finset.univ | .send _ => {false} | .recv _ => {false} | .none => ∅) else ∅
  unitless _ := False
  amount g _ _ := match kind g.2 with | .bar => 1 | _ => N
  payload g _ b := match kind g.2 with
    | .bar => barPay b g.1.1
    | .send i => sPt g.1.1 i (S g.1.1)
    | .recv i => rPt g.1.1 i (rcvF S g.1.1)
    | .none => iprop(emp)
  amount_pos g _ _ _ := by
    split
    · exact Nat.one_pos
    · exact N_pos

instance rd_payload_storable (g : GSem nD τ sig) (r : ℕ) (d : Bool) : BI.Storable (upEmb : UEmb _ 𝕄) ((rd S).payload g r d) := by
  show BI.Storable upEmb (match kind g.2 with
    | .bar => barPay d g.1.1
    | .send i => sPt g.1.1 i (S g.1.1)
    | .recv i => rPt g.1.1 i (rcvF S g.1.1)
    | .none => iprop(emp))
  split <;> infer_instance

section Sched
variable (c : Dev nD) (i : Fin 16)

theorem duties_bar : (rd S).duties (barCell c) 0 = Finset.univ := by
  dsimp only [rd]; exact if_pos ⟨rfl, rfl⟩
theorem duties_send : (rd S).duties (sendCell c i) 0 = {false} := by
  dsimp only [rd]; rw [if_pos ⟨rfl, rfl⟩, kind_send]
theorem duties_recv : (rd S).duties (recvCell c i) 0 = {false} := by
  dsimp only [rd]; rw [if_pos ⟨rfl, rfl⟩, kind_recv]
theorem duties_later (g : GSem nD τ sig) : ∀ r, 1 ≤ r → (rd S).duties g r = ∅ :=
  fun r hr => by dsimp only [rd]; rw [if_neg fun h => by omega]

theorem amount_bar (b : Bool) : (rd S).amount (barCell c) 0 b = 1 := rfl
theorem amount_send (b : Bool) : (rd S).amount (sendCell c i) 0 b = N := by dsimp only [rd]; rw [kind_send]
theorem amount_recv (b : Bool) : (rd S).amount (recvCell c i) 0 b = N := by dsimp only [rd]; rw [kind_recv]

theorem expect_bar : (rd S).expect (barCell c) 0 = 2 := by
  unfold Schedule.expect Schedule.amountOf
  rw [duties_bar, Finset.sum_congr rfl fun d _ => amount_bar S c d, Finset.sum_const, Finset.card_univ, Fintype.card_bool, smul_eq_mul]
theorem expect_send : (rd S).expect (sendCell c i) 0 = N := by
  unfold Schedule.expect Schedule.amountOf; rw [duties_send, Finset.sum_singleton, amount_send]
theorem expect_recv : (rd S).expect (recvCell c i) 0 = N := by
  unfold Schedule.expect Schedule.amountOf; rw [duties_recv, Finset.sum_singleton, amount_recv]

theorem payload_bar (b : Bool) : (rd S).payload (barCell c) 0 b = barPay b c := rfl
theorem payload_send (b : Bool) : (rd S).payload (sendCell c i) 0 b = sPt c i (S c) := by dsimp only [rd]; rw [kind_send]
theorem payload_recv (b : Bool) : (rd S).payload (recvCell c i) 0 b = rPt c i (rcvF S c) := by dsimp only [rd]; rw [kind_recv]

theorem rest_bar : bigSep ((rd S).duties (barCell c) 0 \ ∅) (fun d => (rd S).payload (barCell c) 0 d) = iprop(barPay true c ∗ barPay false c) := by
  rw [Finset.sdiff_empty, duties_bar, bigSep_univ_eq_bigSepL [true, false] (by decide) (by decide), bigSepL_cons_cons, bigSepL_singleton]
  rfl
theorem rest_send : bigSep ((rd S).duties (sendCell c i) 0 \ ∅) (fun d => (rd S).payload (sendCell c i) 0 d) = sPt c i (S c) := by
  rw [Finset.sdiff_empty, duties_send, bigSep_singleton, payload_send]
theorem rest_recv : bigSep ((rd S).duties (recvCell c i) 0 \ ∅) (fun d => (rd S).payload (recvCell c i) 0 d) = rPt c i (rcvF S c) := by
  rw [Finset.sdiff_empty, duties_recv, bigSep_singleton, payload_recv]

end Sched

/-! ## What a device owes, and the levels -/

/-- The receive credits still owed for the transfers of a list, the next one outermost. -/
def OL (c : Dev nD) : List (Fin 16) → CellTallies nD τ sig Unit
  | [] => 0
  | i :: l => OL c l + tallyAt (recvCell (tgt i c) i) () N

abbrev all : List (Fin 16) := [0, 1, 2, 3, 4, 5, 6, 7, 8, 9, 10, 11, 12, 13, 14, 15]
theorem all_univ : (Finset.univ : Finset (Fin 16)) = all.toFinset := by decide
theorem all_nodup : all.Nodup := by decide

/-- After the first signal, and at launch. -/
def O₁ (c : Dev nD) : CellTallies nD τ sig Unit := OL c all + tallyAt (barCell (par false c)) () 1
def O₀ (c : Dev nD) : CellTallies nD τ sig Unit := O₁ c + tallyAt (barCell (par true c)) () 1

def L (g : GSem nD τ sig) : Finset Unit := if g.1.2 = .tc then {()} else ∅
/-- The barrier first, then the first stage's receive cells, then the second stage's. -/
def lv (g : GSem nD τ sig) (_ : Unit) : ℕ := match kind g.2 with | .bar => 1 | .recv i => 2 + i.val / 8 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (i : Fin 16) : lv (sendCell c i) () = 0 := by unfold lv; rw [kind_send]
theorem lv_recv (c : Dev nD) (i : Fin 16) : lv (recvCell c i) () = 2 + i.val / 8 := by unfold lv; rw [kind_recv]

theorem OL_pos {c : Dev nD} {l : List (Fin 16)} {g : GSem nD τ sig} {u : Unit} (h : 0 < OL c l g u) : ∃ i ∈ l, g = recvCell (tgt i c) i := by
  induction l with
  | nil => exact absurd h (Nat.lt_irrefl 0)
  | cons i l ih =>
    rw [OL, Pi.add_apply, Finsupp.add_apply, tallyAt_apply] at h
    by_cases hg : g = recvCell (tgt i c) i ∧ u = ()
    · exact ⟨i, List.mem_cons_self, hg.1⟩
    · rw [if_neg hg, Nat.add_zero] at h
      obtain ⟨k, hk, e⟩ := ih h
      exact ⟨k, List.mem_cons_of_mem _ hk, e⟩

theorem O₀_pos {c : Dev nD} {g : GSem nD τ sig} {u : Unit} (h : 0 < O₀ c g u) :
    (∃ i, g = recvCell (tgt i c) i) ∨ ∃ b, g = barCell (par b c) := by
  unfold O₀ O₁ at h
  rw [Pi.add_apply, Finsupp.add_apply, Pi.add_apply, Finsupp.add_apply, tallyAt_apply, tallyAt_apply] at h
  by_cases h1 : g = barCell (par false c) ∧ u = ()
  · exact .inr ⟨_, h1.1⟩
  by_cases h2 : g = barCell (par true c) ∧ u = ()
  · exact .inr ⟨_, h2.1⟩
  rw [if_neg h1, if_neg h2] at h
  obtain ⟨i, -, e⟩ := OL_pos (by simpa using h)
  exact .inl ⟨i, e⟩

theorem O₀_level {c : Dev nD} {g : GSem nD τ sig} {u : Unit} (h : 0 < O₀ c g u) : u ∈ L g ∧ 0 < lv g u := by
  rcases O₀_pos h with ⟨i, rfl⟩ | ⟨b, rfl⟩
  · exact ⟨by rw [L_tc]; exact Finset.mem_singleton_self _, by rw [lv_recv]; omega⟩
  · exact ⟨by rw [L_tc]; exact Finset.mem_singleton_self _, by rw [lv_bar]; exact Nat.one_pos⟩

/-- A device may wait on a cell of level `n` while it owes receive credits of higher levels only. -/
theorem mayWait (c : Dev nD) (sm : SemLoc sig) (n : ℕ) (hn : lv ((c : Thread nD τ), sm) () ≤ n) (l : List (Fin 16)) (hl : ∀ i ∈ l, n < 2 + i.val / 8) :
    (levAts L lv : sProp 𝕄) ⊢ MayWait (c : Thread nD τ) sm () (OL c l) :=
  MayOwe.of_cut (L := L) (lev := lv) n (fun p hp => by rw [Finset.mem_singleton.mp hp, L_tc]; exact Finset.mem_singleton_self _)
    (fun g u hg => by obtain ⟨i, -, rfl⟩ := OL_pos hg; exact Finset.mem_singleton_self _)
    (fun p hp => by rw [Finset.mem_singleton.mp hp]; exact hn)
    (fun g u hg => by obtain ⟨i, hi, rfl⟩ := OL_pos hg; rw [lv_recv]; exact hl i hi)

/-! ## The invariants every device may consult -/

/-- The transfer semaphores, as the launch numbers them. -/
abbrev osem : Fin 32 → SemLoc sig := fun k => .dma ⟨6 + k.val, by have := k.isLt; show 6 + k.val < 38; omega⟩

theorem osem_inj : Function.Injective osem := fun a b h => by
  have h' := congrArg (fun s : SemLoc sig => match s with | .dma q => q.val | .reg _ => 0) h
  simp only at h'
  exact Fin.ext (by omega)
abbrev kS (i : Fin 16) : Fin 32 := ⟨i.val, by omega⟩
abbrev kR (i : Fin 16) : Fin 32 := ⟨16 + i.val, by omega⟩
theorem osem_send (i : Fin 16) : osem (kS i) = .dma (sS i) := congrArg SemLoc.dma (Fin.ext (sS_val i).symm)
theorem osem_recv (i : Fin 16) : osem (kR i) = .dma (rS i) := congrArg SemLoc.dma (Fin.ext (by rw [rS_val]; show 6 + (16 + i.val) = _; omega))

def barEmb : Dev nD ↪ GSem nD τ sig := ⟨fun c => barCell c, fun _ _ h => congrArg (fun g : GSem nD τ sig => g.1.1) h⟩
def scEmb : Dev nD × Fin 32 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 32) : ((c : Thread nD τ), osem k) ∈ (barCells ∪ scCells : Finset (GSem nD τ sig)) :=
  Finset.mem_union_right _ (Finset.mem_map_of_mem scEmb (Finset.mem_univ (c, k)))
theorem send_mem (c : Dev nD) (i : Fin 16) : sendCell c i ∈ (barCells ∪ scCells : Finset (GSem nD τ sig)) := by
  have h := sc_mem c (kS i); rw [osem_send] at h; exact h
theorem recv_mem (c : Dev nD) (i : Fin 16) : recvCell c i ∈ (barCells ∪ scCells : Finset (GSem nD τ sig)) := by
  have h := sc_mem c (kR i); rw [osem_recv] at h; exact h

/-- Every cell's invariant, at the names `κ`; and that every barrier cell is open. -/
def records (κ : GSem nD τ sig → ℕ) : sProp 𝕄 :=
  iprop((bigSep (barCells ∪ scCells) fun g => cellInv ER (rd S) (κ g) g) ∗ bigSep barCells fun g => reached ER g 0)

instance records_persistent (κ : GSem nD τ sig → ℕ) : BI.Persistent (records S κ) := by unfold records; infer_instance

theorem inv_at (κ : GSem nD τ sig → ℕ) {g : GSem nD τ sig} (hg : g ∈ (barCells ∪ scCells : Finset (GSem nD τ sig))) :
    records S κ ⊢ cellInv ER (rd S) (κ g) g := BIBase.Entails.trans (BIBase.Entails.trans Laws.sep_and and_elimL) (bigSep_elim hg)
theorem reached_at (κ : GSem nD τ sig → ℕ) (c : Dev nD) : records S κ ⊢ reached ER (barCell c) 0 :=
  BIBase.Entails.trans (BIBase.Entails.trans Laws.sep_and and_elimR) (bigSep_elim (Finset.mem_map_of_mem barEmb (Finset.mem_univ c)))

end Cert.KernelIdeal.Run

end
-- ==== Proof.Steps.lean ====
/- The run of the communication: one transfer started, one transfer waited for, a first-stage step and a second-stage
   step, each stated once for a symbolic transfer or chunk, and their sequences by induction on the list. -/
module

public import proofs.«01_k».proof.Proof.Protocol

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` on device `c` runs, and ends in `Q`. -/
abbrev runs (c : Dev nD) (p : P F PUnit) (Q : PUnit → sProp 𝕄) : sProp 𝕄 :=
  wp frame (wpE (defs₀ (F := F)) 𝒱₀ (c : Thread nD τ) none) Set.univ p Q

variable (S : Dev nD → Cont F) (κ : GSem nD τ sig → ℕ) (c : Dev nD)

/-- What starting transfer `i` takes beside the two sides' rows. -/
def tok (i : Fin 16) : sProp 𝕄 :=
  iprop(atPos ER (sendCell c i) 0 ∅ 0 ∗ reached ER (sendCell c i) 0 ∗ dutyTok ER (sendCell c i) 0 false ∗ dutyTok ER (recvCell (tgt i c) i) 0 false)
/-- The same with the destination. -/
def toSend (i : Fin 16) : sProp 𝕄 := iprop(tok c i ∗ dest (tgt i c) i)
/-- What a started transfer leaves. -/
def sent (i : Fin 16) : sProp 𝕄 := iprop(atPos ER (sendCell c i) 0 ∅ 0 ∗ cred (tallyAt (sendCell c i) () N))
/-- What waiting for the partner's transfer `i` takes. -/
def toRecv (i : Fin 16) : sProp 𝕄 := iprop(cred (tallyAt (recvCell c i) () N) ∗ atPos ER (recvCell c i) 0 ∅ 0)
/-- Both of transfer `i`'s cells, past their one round. -/
def past (i : Fin 16) : sProp 𝕄 := iprop(atPos ER (sendCell c i) 1 ∅ 0 ∗ atPos ER (recvCell c i) 1 ∅ 0)

abbrev owing (O : CellTallies nD τ sig Unit) : sProp 𝕄 := iprop(∃ W, owes (c : Thread nD τ) O W)

/-- Start transfer `i` towards device `d`. -/
def sendTo (d : Dev nD) (i : Fin 16) : P F PUnit :=
  Prog.lift (.enqueueDma (sndM i) (.remote (Dev.tc d) (rcvM i) (.dma (sS i))) (.dma (rS i)) (snd_words i) (rcv_words i) ⟨⟨rfl, Or.inl rfl⟩, trivial⟩)
theorem sendP_eq (i : Fin 16) : sendP (F := F) c i = sendTo (tgt i c) i := (dvs_eq c i) ▸ (rfl : sendP c i = sendTo (dvs c i) i)

theorem send_step (i : Fin 16) (l : List (Fin 16)) (k : PUnit → P F PUnit) (Q : PUnit → sProp 𝕄) :
    iprop(records S κ ∗ toSend c i ∗ sPt c i (S c) ∗ owing c (OL c (i :: l)) ∗ ((sent c i ∗ owing c (OL c l)) -∗ runs c (k ⟨⟩) Q))
      ⊢ runs c (sendP c i >>= k) Q := by
  rw [sendP_eq]
  unfold toSend tok dest sendTo
  simp only [Prog.lift, Prog.bind_op, Prog.bind_ret]
  iintro ⟨#HR, ⟨⟨Hat, #HrS, HtS, HtN⟩, ⟨%fn, Hd⟩, #HrN⟩, Hs, ⟨%W, HO⟩, Hk⟩
  ihave #HIs := (inv_at S κ (send_mem c i)) $$ HR
  ihave #HIr := (inv_at S κ (recv_mem (tgt i c) i)) $$ HR
  iapply (Rounds.wp_send_pointsTo 𝒱₀ ER (rd S) (c : Thread nD τ) none (c' := (tgt i c : Thread nD τ)) (src := sndM i) (dst := rcvM i)
      (sS := .dma (sS i)) (sem := .dma (rS i)) (q := fullShare) (fs := S c) (κ₁ := κ (sendCell c i)) (κ₂ := κ (recvCell (tgt i c) i))
      (r₁ := 0) (r₂ := 0) (d₁ := false) (d₂ := false) (fd := fn)
      (by rw [duties_send]; exact Finset.mem_singleton_self _) (by rw [duties_recv]; exact Finset.mem_singleton_self _)
      () () N rfl (amount_send S c i false) (amount_recv S (tgt i c) i false) (OL c l) rfl (W := W)
      (by rw [payload_send, snd_set]; exact BI.Entails.refl _)
      (by
        rw [payload_recv, rcv_set]
        show rPt (tgt i c) i _ ⊢ _
        refine Entails.of_eq (rPt_congr _ _ fun x hx => ?_)
        rw [landed_at i _ _ x hx, rcvF, hx, tgt_tgt])) $$ [Hs Hd HO HtS HtN]
  · isplitr; · iexact HIs
    isplitr; · iexact HIr
    isplitl [Hs]; · unfold sPt; rw [snd_set]; iexact Hs
    isplitl [Hd]; · unfold rPt; rw [rcv_set]; iexact Hd
    isplitl [HO]; · iexact HO
    isplitl [HtS]; · iexact HtS
    isplitr; · iexact HrS
    isplitl [HtN]; · iexact HtN
    iexact HrN
  iintro ⟨Hc, HO⟩
  iapply Hk
  unfold sent
  isplitl [Hat Hc]
  · isplitl [Hat]; · iexact Hat
    iexact Hc
  iexists W; iexact HO

theorem send_all (l r : List (Fin 16)) (k : PUnit → P F PUnit) (Q : PUnit → sProp 𝕄) :
    iprop(records S κ ∗ bigSepL l (toSend c) ∗ bigSepL l (fun i => sPt c i (S c)) ∗ owing c (OL c (l ++ r))
        ∗ ((bigSepL l (sent c) ∗ owing c (OL c r)) -∗ runs c (k ⟨⟩) Q))
      ⊢ runs c (sendAll c l >>= k) Q := by
  induction l with
  | nil =>
    simp only [sendAll, Prog.pure_eq_ret, Prog.bind_ret, bigSepL_nil, List.nil_append]
    iintro ⟨-, -, -, HO, Hk⟩
    iapply Hk
    isplitr; · iempintro
    iexact HO
  | cons i l ih =>
    simp only [sendAll, Prog.bind_assoc, bigSepL_cons', List.cons_append]
    iintro ⟨#HR, ⟨Ht, Hts⟩, ⟨Hs, Hss⟩, HO, Hk⟩
    iapply (send_step S κ c i (l ++ r)) $$ [Ht Hs HO Hts Hss Hk]
    isplitr; · iexact HR
    isplitl [Ht]; · iexact Ht
    isplitl [Hs]; · iexact Hs
    isplitl [HO]; · iexact HO
    iintro ⟨Hd, HO⟩
    iapply ih
    isplitr; · iexact HR
    isplitl [Hts]; · iexact Hts
    isplitl [Hss]; · iexact Hss
    isplitl [HO]; · iexact HO
    iintro ⟨Hds, HO⟩
    iapply Hk
    isplitl [Hd Hds]
    · isplitl [Hd]; · iexact Hd
      iexact Hds
    iexact HO

theorem wait_step (i : Fin 16) (l : List (Fin 16)) (hl : ∀ k ∈ l, 2 + i.val / 8 < 2 + k.val / 8) (k : PUnit → P F PUnit) (Q : PUnit → sProp 𝕄) :
    iprop(records S κ ∗ levAts L lv ∗ sent c i ∗ toRecv c i ∗ owing c (OL c l)
        ∗ ((past c i ∗ sPt c i (S c) ∗ rPt c i (rcvF S c) ∗ owing c (OL c l)) -∗ runs c (k ⟨⟩) Q))
      ⊢ runs c (waitP i >>= k) Q := by
  unfold sent toRecv waitP
  simp only [Prog.lift, Prog.bind_op, Prog.bind_ret]
  iintro ⟨#HR, #Hlev, ⟨HatS, HcS⟩, ⟨HcR, HatR⟩, ⟨%W, HO⟩, Hk⟩
  ihave #HIs := (inv_at S κ (send_mem c i)) $$ HR
  ihave #HIr := (inv_at S κ (recv_mem c i)) $$ HR
  iapply (Rounds.wp_wait_rest_token 𝒱₀ ER (rd S) (c : Thread nD τ) none (κ := κ (sendCell c i))
      (wpE_waitDma2_eq (src := rcvM i) (dst := sndM i) (hsrc := rcv_words i) (hdst := snd_words i) 𝒱₀ (c : Thread nD τ) none Set.univ) (Set.mem_univ _) () (O := OL c l) (W := W) (R := 0) (m := 0) (T := ∅)
      ((Nat.zero_add _).trans (expect_send S c i).symm)) $$ [HcS HO HatS]
  · isplitr; · iexact HIs
    isplitl [HcS]; · iexact HcS
    isplitl [HO]; · iexact HO
    isplitr
    · iapply (mayWait c (.dma (sS i)) 0 (by rw [lv_send]) l (fun k _ => by omega)); iexact Hlev
    iexact HatS
  iintro ⟨HO, HatS, -, Hpay⟩
  ihave Hs := (Entails.of_eq (rest_send S c i)) $$ Hpay
  iapply (Rounds.wp_wait_rest_token 𝒱₀ ER (rd S) (c : Thread nD τ) none (κ := κ (recvCell c i))
      (wpE_waitDma2_eq (src := sndM i) (dst := rcvM i) (hsrc := snd_words i) (hdst := rcv_words i) 𝒱₀ (c : Thread nD τ) none Set.univ) (Set.mem_univ _) () (O := OL c l) (W := insert (SemLoc.dma (sS i), ()) W) (R := 0) (m := 0) (T := ∅)
      ((Nat.zero_add _).trans (expect_recv S c i).symm)) $$ [HcR HO HatR]
  · isplitr; · iexact HIr
    isplitl [HcR]; · iexact HcR
    isplitl [HO]; · iexact HO
    isplitr
    · iapply (mayWait c (.dma (rS i)) (2 + i.val / 8) (by rw [lv_recv]) l hl); iexact Hlev
    iexact HatR
  iintro ⟨HO, HatR, -, Hpay⟩
  ihave Hr := (Entails.of_eq (rest_recv S c i)) $$ Hpay
  iapply Hk
  unfold past
  isplitl [HatS HatR]
  · isplitl [HatS]; · iexact HatS
    iexact HatR
  isplitl [Hs]; · iexact Hs
  isplitl [Hr]; · iexact Hr
  iexists _; iexact HO

end Cert.KernelIdeal.Run

end
-- ==== Proof.Values.lean ====
/- What the buffers hold, as functions of the five arguments in VMEM: a device's partial product, its first-stage sum,
   what it sends in the two stages, and the result; and that every store of the body makes these. Any format-indexed
   floats: nothing here reads an operation. -/
module

public import proofs.«01_k».proof.Proof.Protocol
public import Idealize.ShloMosaic.Lib.PointwiseCore
public import Idealize.ShloMosaic.Lib.Pointwise.Reshape
public import Idealize.ShloMosaic.Lib.Pipeline.Value

@[expose] public section

set_option maxRecDepth 16384

noncomputable section

namespace Cert.KernelIdeal.Run

open Cert.KernelIdeal Cert.KernelIdeal.Gen
open Idealize.ShloMosaic
open Idealize.ShloMosaic.TcCoe

variable {F : FTy → Type} [FloatOps F]

/-- The five arguments of one device, as they lie in VMEM. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-- What a load of all of a buffer reads. -/
abbrev wqV (I : Ins F) : Vec F S512x256 .bf16 := (qM.access (Rect.unit (s := S512x256) ![0, 0] S512x256.size inb_S512x256_S512x256_0_0)).read (Elt F) I.wq
abbrev woV (I : Ins F) : Vec F S256x512 .bf16 := (oM.access (Rect.unit (s := S256x512) ![0, 0] S256x512.size inb_S256x512_S256x512_0_0)).read (Elt F) I.wo
abbrev xV (I : Ins F) (b : Fin 2) : Vec F S1x128x512 .bf16 := (xM.access (brect b)).read (Elt F) I.x
abbrev kV (I : Ins F) (b : Fin 2) (h : Fin 4) : Vec F S1x128x64 .bf16 := (kM.access (krect b h)).read (Elt F) I.k
abbrev vV (I : Ins F) (b : Fin 2) (h : Fin 4) : Vec F S1x128x64 .bf16 := (vM.access (krect b h)).read (Elt F) I.v

/-- One batch's partial product. -/
def pbV (I : Ins F) (b : Fin 2) : FVec F S128x512 .f32 :=
  pbPay (wqV I) (woV I) (xV I b) (kV I b 0) (vV I b 0) (kV I b 1) (vV I b 1) (kV I b 2) (vV I b 2) (kV I b 3) (vV I b 3)

/-- Contents of the accumulator, and of the result buffer. -/
abbrev Acc (F : FTy → Type) : Type := (cc0_scratch0 : Ref sig .tc).ty.Contents (Elt F)
abbrev Out (F : FTy → Type) : Type := (cc0_stg5_0 : Ref sig .tc).ty.Contents (Elt F)

/-- A device's partial product of both batches. -/
def pbF (I : Ins F) : FVec F S2x128x512 .f32 := fun y => pbV I (y 0) (ix2 (y 1) (y 2))

/-- The element of the communication buffers that stage `s` uses for an element of the accumulator. -/
abbrev at4 (s : Fin 2) (y : S2x128x512.Idx) : S2x2x128x512.Idx := ix4 s (y 0) (y 1) (y 2)

def S0 (I : Ins F) : FVec F S2x128x512 .bf16 := truncf .bf16 (pbF I) bitsLt_bf16_f32
def rcv0 (I : Dev nD → Ins F) (c : Dev nD) : FVec F S2x128x512 .bf16 := fun y => S0 (I (tgt (slot (at4 0 y)) c)) y
/-- After the first stage: the device's own and its first partner's. -/
def acc1 (I : Dev nD → Ins F) (c : Dev nD) : FVec F S2x128x512 .f32 := addf (pbF (I c)) (extf .f32 (rcv0 I c) bitsLt_bf16_f32)
def S1 (I : Dev nD → Ins F) (c : Dev nD) : FVec F S2x128x512 .bf16 := truncf .bf16 (acc1 I c) bitsLt_bf16_f32
def rcv1 (I : Dev nD → Ins F) (c : Dev nD) : FVec F S2x128x512 .bf16 := fun y => S1 I (tgt (slot (at4 1 y)) c) y
/-- The result. -/
def outF (I : Dev nD → Ins F) (c : Dev nD) : FVec F S2x128x512 .bf16 :=
  truncf .bf16 (addf (acc1 I c) (extf .f32 (rcv1 I c) bitsLt_bf16_f32)) bitsLt_bf16_f32

/-- What a device sends: its rounded partial product, then its rounded first-stage sum. -/
def sndF (I : Dev nD → Ins F) (c : Dev nD) : Cont F := fun z =>
  if (z 0).val = 0 then S0 (I c) (ix3 (n0 := 2) (n1 := 128) (n2 := 512) (z 1) (z 2) (z 3)) else S1 I c (ix3 (n0 := 2) (n1 := 128) (n2 := 512) (z 1) (z 2) (z 3))

/-- The chunk of an element of the accumulator. -/
def chunk (y : S2x128x512.Idx) : Fin 8 := ⟨4 * (y 0).val + (y 1).val / 32, by
  have h0 : (y 0).val < 2 := (y 0).isLt
  have h1 : (y 1).val < 128 := (y 1).isLt
  omega⟩

/-- The accumulator while the first stage has the chunks of `l` still to do, and the result buffer in the second. -/
def accT (I : Dev nD → Ins F) (c : Dev nD) (l : List (Fin 8)) : Acc F := fun y => if chunk y ∈ l then pbF (I c) y else acc1 I c y
def outT (I : Dev nD → Ins F) (c : Dev nD) (f : Out F) (l : List (Fin 8)) : Out F := fun y => if chunk y ∈ l then f y else outF I c y

theorem mem_arect (j : Fin 8) (y : S2x128x512.Idx) : y ∈ (arect j).set ↔ chunk y = j := by
  have h0 : (y 0).val < 2 := (y 0).isLt
  have h1 : (y 1).val < 128 := (y 1).isLt
  have h2 : (y 2).val < 512 := (y 2).isLt
  have hj := j.isLt
  rw [Rect.mem_set_unit]
  constructor
  · intro h
    have a0 := h 0; have a1 := h 1
    simp only [Matrix.cons_val_zero, Matrix.cons_val_one, Matrix.cons_val] at a0 a1
    exact Fin.ext (by simp only [chunk]; omega)
  · intro h
    have e := congrArg Fin.val h
    simp only [chunk] at e
    intro a
    fin_cases a <;> simp <;> omega

/-- A chunk's elements in the accumulator and in the communication buffers go together. -/
theorem at4_emb (s : Fin 2) (j : Fin 8) (i : Fin 16) (hi : i.val = 8 * s.val + j.val) (x : S1x32x512.Idx) :
    at4 s ((arect j).emb x) = (rect i).emb (ix4 (n0 := 1) (n1 := 1) (n2 := 32) (n3 := 512) 0 0 (x 1) (x 2)) := by
  have hx : (x 0).val < 1 := (x 0).isLt
  have hs := s.isLt; have hj := j.isLt
  funext a
  refine Fin.ext ?_
  fin_cases a
  · show s.val = i.val / 8 + 1 * 0; omega
  · show j.val / 4 + 1 * (x 0).val = i.val / 4 % 2 + 1 * 0; omega
  · show j.val % 4 * 32 + 1 * (x 1).val = i.val % 4 * 32 + 1 * (x 1).val; omega
  · show 0 + 1 * (x 2).val = 0 + 1 * (x 2).val; rfl

theorem accPay_apply (v : Vec F S1x32x512 .f32) (w : Vec F S1x1x32x512 .bf16) (x : S1x32x512.Idx) :
    accPay v w x = FloatOps.addf (v x) (FloatOps.extf .f32 bitsLt_bf16_f32 (w (ix4 0 0 (x 1) (x 2)))) := by
  pointwise [accPay]

theorem sndPay_apply (v : Vec F S1x32x512 .f32) (w : Vec F S1x1x32x512 .bf16) (z : S1x1x32x512.Idx) :
    sndPay v w z = FloatOps.truncf .bf16 bitsLt_bf16_f32 (FloatOps.addf (v (ix3 0 (z 2) (z 3))) (FloatOps.extf .f32 bitsLt_bf16_f32 (w z))) := by
  pointwise [sndPay]

theorem finPay_apply (v : Vec F S1x32x512 .f32) (w : Vec F S1x1x32x512 .bf16) (x : S1x32x512.Idx) :
    k0_pay1 v w x = FloatOps.truncf .bf16 bitsLt_bf16_f32 (FloatOps.addf (v x) (FloatOps.extf .f32 bitsLt_bf16_f32 (w (ix4 0 0 (x 1) (x 2))))) := by
  pointwise [k0_pay1]

/-! ## The stores -/

section Stores
variable (I : Dev nD → Ins F) (c : Dev nD)

theorem slot_at4 (s : Fin 2) (y : S2x128x512.Idx) : (slot (at4 s y)).val = 8 * s.val + (chunk y).val := by
  show 8 * s.val + 4 * (y 0).val + (y 1).val / 32 = 8 * s.val + (4 * (y 0).val + (y 1).val / 32); omega

theorem at4_back (y : S2x128x512.Idx) : ix3 (n0 := 2) (n1 := 128) (n2 := 512) (y 0) (y 1) (y 2) = y := ix3_eta y

/-- What has arrived, read at an element of the accumulator. -/
theorem rcvF_at0 (y : S2x128x512.Idx) : rcvF (sndF I) c (at4 0 y) = rcv0 I c y := by
  unfold rcvF sndF rcv0
  rw [if_pos (show ((at4 0 y) 0).val = 0 from rfl)]
  exact congrArg _ (at4_back y)
theorem rcvF_at1 (y : S2x128x512.Idx) : rcvF (sndF I) c (at4 1 y) = rcv1 I c y := by
  unfold rcvF sndF rcv1
  rw [if_neg (show ¬ ((at4 1 y) 0).val = 0 from Nat.one_ne_zero)]
  exact congrArg _ (at4_back y)

/-- What the two loads of a step read. -/
theorem read_rcv (s : Fin 2) (j : Fin 8) (i : Fin 16) (hi : i.val = 8 * s.val + j.val) (x : S1x32x512.Idx) :
    (rM.access (rect i)).read (Elt F) (rcvF (sndF I) c) (ix4 0 0 (x 1) (x 2)) = rcvF (sndF I) c (at4 s ((arect j).emb x)) := by
  rw [at4_emb s j i hi x]; rfl

theorem acc_emb (j : Fin 8) (x : S1x32x512.Idx) : (aM.access (arect j)).emb x = (arect j).emb x := rfl

theorem chunk_emb (j : Fin 8) (x : S1x32x512.Idx) : chunk ((arect j).emb x) = j := by
  have h : (aM.access (arect j)).emb x ∈ (aM.access (arect j)).set := View.emb_mem_set _ x
  rw [View.set_slice_whole] at h
  exact (mem_arect j _).mp h

/-- The value of a first-stage step at an element of its chunk. -/
theorem stage_val (j : Fin 8) (l : List (Fin 8)) (x : S1x32x512.Idx) :
    FloatOps.addf ((aM.access (arect j)).read (Elt F) (accT I c (j :: l)) x)
      (FloatOps.extf .f32 bitsLt_bf16_f32 ((rM.access (rect (st0 j))).read (Elt F) (rcvF (sndF I) c) (ix4 0 0 (x 1) (x 2)))) = acc1 I c ((arect j).emb x) := by
  rw [read_rcv I c 0 j (st0 j) (by simp) x, rcvF_at0]
  show FloatOps.addf (accT I c (j :: l) ((arect j).emb x)) _ = _
  unfold accT
  rw [chunk_emb, if_pos List.mem_cons_self]
  rfl

theorem acc_stage (j : Fin 8) (l : List (Fin 8)) (hj : j ∉ l) :
    (aM.access (arect j)).write (Elt F) (accT I c (j :: l))
      (accPay ((aM.access (arect j)).read (Elt F) (accT I c (j :: l))) ((rM.access (rect (st0 j))).read (Elt F) (rcvF (sndF I) c))) Finset.univ = accT I c l := by
  funext y
  by_cases h : y ∈ (aM.access (arect j)).set
  · obtain ⟨x, rfl⟩ := View.exists_emb_of_mem_set _ h
    rw [View.write_emb_of_mem _ _ (Finset.mem_univ x)]
    show accPay _ _ x = accT I c l ((arect j).emb x)
    rw [accPay_apply, stage_val]
    unfold accT; rw [chunk_emb, if_neg hj]
  · rw [View.write_of_not_mem _ _ _ (by rwa [View.setOn_univ])]
    have h' : chunk y ≠ j := fun e => h (by rw [View.set_slice_whole]; exact (mem_arect j y).mpr e)
    unfold accT; simp only [List.mem_cons, h', false_or]

theorem snd_stage (j : Fin 8) (l : List (Fin 8)) (f : Cont F) (z : S2x2x128x512.Idx) (hz : slot z = st1 j) :
    (sM.access (rect (st1 j))).write (Elt F) f
      (sndPay ((aM.access (arect j)).read (Elt F) (accT I c (j :: l))) ((rM.access (rect (st0 j))).read (Elt F) (rcvF (sndF I) c))) Finset.univ z = sndF I c z := by
  have h : z ∈ (sM.access (rect (st1 j))).set := by rw [View.set_slice_whole]; exact (mem_rect _ z).mpr hz
  obtain ⟨x, rfl⟩ := View.exists_emb_of_mem_set _ h
  rw [View.write_emb_of_mem _ _ (Finset.mem_univ x)]
  have hx : x = ix4 (n0 := 1) (n1 := 1) (n2 := 32) (n3 := 512) 0 0 (x 2) (x 3) := by
    have h0 : (x 0).val < 1 := (x 0).isLt
    have h1 : (x 1).val < 1 := (x 1).isLt
    funext a; refine Fin.ext ?_
    fin_cases a
    · show (x 0).val = 0; omega
    · show (x 1).val = 0; omega
    · rfl
    · rfl
  have e : at4 1 ((arect j).emb (ix3 (n0 := 1) (n1 := 32) (n2 := 512) 0 (x 2) (x 3))) = (rect (st1 j)).emb x :=
    (at4_emb 1 j (st1 j) (by simp) (ix3 (n0 := 1) (n1 := 32) (n2 := 512) 0 (x 2) (x 3))).trans (congrArg _ hx.symm)
  have v := stage_val I c j l (ix3 (n0 := 1) (n1 := 32) (n2 := 512) 0 (x 2) (x 3))
  have hw : (ix4 0 0 ((ix3 (n0 := 1) (n1 := 32) (n2 := 512) 0 (x 2) (x 3)) 1) ((ix3 (n0 := 1) (n1 := 32) (n2 := 512) 0 (x 2) (x 3)) 2) : S1x1x32x512.Idx) = x := hx.symm
  rw [hw] at v
  show sndPay _ _ x = sndF I c ((rect (st1 j)).emb x)
  rw [sndPay_apply, ← e, v]
  unfold sndF
  rw [if_neg (show ¬ ((at4 1 _) 0).val = 0 from Nat.one_ne_zero)]
  exact congrArg (S1 I c) (at4_back _).symm

theorem out_stage (j : Fin 8) (l : List (Fin 8)) (hj : j ∉ l) (f : Out F) :
    (yM.access (arect j)).write (Elt F) (outT I c f (j :: l))
      (k0_pay1 ((aM.access (arect j)).read (Elt F) (accT I c [])) ((rM.access (rect (st1 j))).read (Elt F) (rcvF (sndF I) c))) Finset.univ = outT I c f l := by
  funext y
  by_cases h : y ∈ (yM.access (arect j)).set
  · obtain ⟨x, rfl⟩ := View.exists_emb_of_mem_set _ h
    rw [View.write_emb_of_mem _ _ (Finset.mem_univ x)]
    show k0_pay1 _ _ x = outT I c f l ((arect j).emb x)
    rw [finPay_apply, read_rcv I c 1 j (st1 j) (by simp) x, rcvF_at1]
    unfold outT; rw [chunk_emb, if_neg hj]
    rfl
  · rw [View.write_of_not_mem _ _ _ (by rwa [View.setOn_univ])]
    have h' : chunk y ≠ j := fun e => h (by rw [View.set_slice_whole]; exact (mem_arect j y).mpr e)
    unfold outT; simp only [List.mem_cons, h', false_or]

theorem mem_brect (b : Fin 2) (y : S2x128x512.Idx) : y ∈ (brect b).set ↔ y 0 = b := by
  have h1 : (y 1).val < 128 := (y 1).isLt
  have h2 : (y 2).val < 512 := (y 2).isLt
  rw [Rect.mem_set_unit]
  constructor
  · intro h
    have a0 := h 0
    simp only [Matrix.cons_val_zero] at a0
    exact Fin.ext (by omega)
  · intro h
    have e : (y 0).val = b.val := congrArg Fin.val h
    intro a
    fin_cases a <;> simp <;> omega

/-- What one batch's store leaves in the accumulator. -/
abbrev accW (b : Fin 2) (f : Acc F) : Acc F :=
  (aM.access (brect b)).write (Elt F) f (shapeCast S1x128x512 (pbV (I c) b) shapeCasts_S128x512_S1x128x512) Finset.univ

theorem accW_at (b : Fin 2) (f : Acc F) (y : S2x128x512.Idx) : accW I c b f y = if (y 0).val = b.val then pbF (I c) y else f y := by
  by_cases h : y ∈ (aM.access (brect b)).set
  · have hb : y 0 = b := (mem_brect b y).mp (by rw [View.set_slice_whole] at h; exact h)
    rw [if_pos (congrArg Fin.val hb)]
    obtain ⟨x, rfl⟩ := View.exists_emb_of_mem_set _ h
    refine (View.write_emb_of_mem _ _ (Finset.mem_univ x)).trans ?_
    show shapeCast S1x128x512 (pbV (I c) b) shapeCasts_S128x512_S1x128x512 x = pbF (I c) ((brect b).emb x)
    unfold pbF
    rw [show ((brect b).emb x) 0 = b from hb]
    pointwise
    refine congrArg _ (funext fun a => Fin.ext ?_)
    fin_cases a
    · show (x 1).val = 0 + 1 * (x 1).val; omega
    · show (x 2).val = 0 + 1 * (x 2).val; omega
  · rw [if_neg fun e => h (by rw [View.set_slice_whole]; exact (mem_brect b y).mpr (Fin.ext e))]
    exact View.write_of_not_mem _ _ _ (by rwa [View.setOn_univ])

theorem acc_both (f : Acc F) : accW I c 1 (accW I c 0 f) = accT I c [0, 1, 2, 3, 4, 5, 6, 7] := by
  funext y
  have hc : chunk y ∈ ([0, 1, 2, 3, 4, 5, 6, 7] : List (Fin 8)) := by
    have : ∀ j : Fin 8, j ∈ ([0, 1, 2, 3, 4, 5, 6, 7] : List (Fin 8)) := by decide
    exact this _
  unfold accT
  rw [if_pos hc, accW_at, accW_at]
  have h0 : (y 0).val < 2 := (y 0).isLt
  by_cases h1 : (y 0).val = (1 : Fin 2).val
  · rw [if_pos h1]
  · have h1' : (y 0).val ≠ 1 := h1
    rw [if_neg h1, if_pos (show (y 0).val = (0 : Fin 2).val by show (y 0).val = 0; omega)]

theorem mem_sbrect (b : Fin 2) (z : S2x2x128x512.Idx) : z ∈ (sbrect b).set ↔ (z 0).val = 0 ∧ z 1 = b := by
  have h2 : (z 2).val < 128 := (z 2).isLt
  have h3 : (z 3).val < 512 := (z 3).isLt
  rw [Rect.mem_set_unit]
  constructor
  · intro h
    have a0 := h 0; have a1 := h 1
    simp only [Matrix.cons_val_zero, Matrix.cons_val_one] at a0 a1
    exact ⟨by omega, Fin.ext (by omega)⟩
  · intro ⟨h, h'⟩
    have e : (z 1).val = b.val := congrArg Fin.val h'
    intro a
    fin_cases a <;> simp <;> omega

/-- The transfers of batch `b` in the first stage. -/
def batch (b : Fin 2) : List (Fin 16) := if b = 0 then [0, 1, 2, 3] else [4, 5, 6, 7]
theorem mem_batch : ∀ (b : Fin 2) (i : Fin 16), i ∈ batch b ↔ i.val / 4 = b.val := by decide
theorem batch_iff (b : Fin 2) (z : S2x2x128x512.Idx) : slot z ∈ batch b ↔ (z 0).val = 0 ∧ z 1 = b := by
  have h0 : (z 0).val < 2 := (z 0).isLt
  have h1 : (z 1).val < 2 := (z 1).isLt
  have h2 : (z 2).val < 128 := (z 2).isLt
  have hb := b.isLt
  rw [mem_batch]
  show (8 * (z 0).val + 4 * (z 1).val + (z 2).val / 32) / 4 = b.val ↔ _
  exact ⟨fun h => ⟨by omega, Fin.ext (by omega)⟩, fun ⟨h, h'⟩ => by have e : (z 1).val = b.val := congrArg Fin.val h'; omega⟩

theorem snd_batch (b : Fin 2) (f : Cont F) (z : S2x2x128x512.Idx) (hz : slot z ∈ batch b) :
    (sM.access (sbrect b)).write (Elt F) f (shapeCast S1x1x128x512 (truncf .bf16 (pbV (I c) b) bitsLt_bf16_f32) shapeCasts_S128x512_S1x1x128x512) Finset.univ z = sndF I c z := by
  obtain ⟨h0, hb⟩ := (batch_iff b z).mp hz
  have h : z ∈ (sM.access (sbrect b)).set := by rw [View.set_slice_whole]; exact (mem_sbrect b z).mpr ⟨h0, hb⟩
  obtain ⟨x, rfl⟩ := View.exists_emb_of_mem_set _ h
  rw [View.write_emb_of_mem _ _ (Finset.mem_univ x)]
  show shapeCast S1x1x128x512 (truncf .bf16 (pbV (I c) b) bitsLt_bf16_f32) shapeCasts_S128x512_S1x1x128x512 x = sndF I c ((sbrect b).emb x)
  unfold sndF S0 pbF
  rw [if_pos (show (((sbrect b).emb x) 0).val = 0 from h0)]
  pointwise
  rw [show ((sbrect b).emb x) 1 = b from hb]
  refine congrArg _ (congrArg _ (funext fun a => Fin.ext ?_))
  fin_cases a
  · show (x 2).val = 0 + 1 * (x 2).val; omega
  · show (x 3).val = 0 + 1 * (x 3).val; omega

end Stores

end Cert.KernelIdeal.Run

end
-- ==== Proof.Body.lean ====
/- The run of the body at a symbolic device, with contents: the two attention steps, the barrier, the sends, the
   eight first-stage and the eight second-stage steps, and the cells' counters back at zero. -/
module

public import proofs.«01_k».proof.Proof.Steps
public import proofs.«01_k».proof.Proof.Values

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (κ : GSem nD τ sig → ℕ) (c : Dev nD)

/-! ## One step of each stage, and the stages -/

/-- What a first-stage step takes, and what it leaves. -/
def stageIn (j : Fin 8) : sProp 𝕄 := iprop(sent c (st0 j) ∗ toRecv c (st0 j) ∗ toSend c (st1 j) ∗ ∃ f, sPt c (st1 j) f)
def stageOut (j : Fin 8) : sProp 𝕄 := iprop(past c (st0 j) ∗ sPt c (st0 j) (sndF I c) ∗ rPt c (st0 j) (rcvF (sndF I) c) ∗ sent c (st1 j))

theorem stage_step (j : Fin 8) (l : List (Fin 8)) (hj : j ∉ l) (k : PUnit → P F PUnit) (Q : PUnit → sProp 𝕄) :
    iprop(records (sndF I) κ ∗ levAts L lv ∗ stageIn c j ∗ owing c (OL c ((j :: l).map st1)) ∗ pt c cc0_scratch0 (accT I c (j :: l))
        ∗ ((stageOut I c j ∗ owing c (OL c (l.map st1)) ∗ pt c cc0_scratch0 (accT I c l)) -∗ runs c (k ⟨⟩) Q))
      ⊢ runs c (stageP c j >>= k) Q := by
  unfold stageIn stageP
  simp only [Prog.bind_assoc, Prog.lift, Prog.bind_op, Prog.bind_ret]
  iintro ⟨#HR, #Hlev, ⟨Hs, Hr, Ht, ⟨%f, Hb⟩⟩, HO, Ha, Hk⟩
  iapply (wait_step (sndF I) κ c (st0 j) ((j :: l).map st1) (by
    intro i hi
    obtain ⟨q, -, rfl⟩ := List.mem_map.mp hi
    show 2 + j.val / 8 < 2 + (8 + q.val) / 8
    omega))
  isplitr; · iexact HR
  isplitr; · iexact Hlev
  isplitl [Hs]; · iexact Hs
  isplitl [Hr]; · iexact Hr
  isplitl [HO]; · iexact HO
  iintro ⟨Hp, Hs, Hr, HO⟩
  iapply (wp_load_rect 𝒱₀ (c : Thread nD τ) none Set.univ (m := aM) (r := arect j) (Finset.subset_univ _)) $$ Ha; iintro Ha
  ihave Hr := (Entails.of_eq (show (rPt c (st0 j) (rcvF (sndF I) c) : sProp 𝕄) = _ from rfl)) $$ Hr
  unfold rPt
  iapply (wp_load_rect 𝒱₀ (c : Thread nD τ) none Set.univ (m := rM) (r := rect (st0 j)) (by rw [View.set_slice_whole])) $$ Hr; iintro Hr
  iapply (wp_load_rect 𝒱₀ (c : Thread nD τ) none Set.univ (m := aM) (r := arect j) (Finset.subset_univ _)) $$ Ha; iintro Ha
  iapply (wp_store 𝒱₀ (c : Thread nD τ) none Set.univ (m := aM) (r := arect j) (Mk := Finset.univ) (Finset.subset_univ _)) $$ Ha; iintro Ha
  unfold sPt
  iapply (wp_load_rect 𝒱₀ (c : Thread nD τ) none Set.univ (m := sM) (r := rect (st1 j)) (by rw [View.set_slice_whole])) $$ Hb; iintro Hb
  iapply (wp_store 𝒱₀ (c : Thread nD τ) none Set.univ (m := sM) (r := rect (st1 j)) (Mk := Finset.univ) (by rw [View.setOn_univ, View.set_slice_whole])) $$ Hb; iintro Hb
  rw [acc_stage I c j l hj]
  iapply (send_step (sndF I) κ c (st1 j) (l.map st1))
  isplitr; · iexact HR
  isplitl [Ht]; · iexact Ht
  isplitl [Hb]
  · iapply (Entails.of_eq (sPt_congr c (st1 j) fun z hz => snd_stage I c j l f z hz)); unfold sPt; iexact Hb
  isplitl [HO]; · iexact HO
  iintro ⟨Hd, HO⟩
  iapply Hk
  unfold stageOut sPt rPt
  isplitl [Hp Hs Hr Hd]
  · isplitl [Hp]; · iexact Hp
    isplitl [Hs]; · iexact Hs
    isplitl [Hr]; · iexact Hr
    iexact Hd
  isplitl [HO]; · iexact HO
  iexact Ha

theorem stage_all (l : List (Fin 8)) (hl : l.Nodup) (k : PUnit → P F PUnit) (Q : PUnit → sProp 𝕄) :
    iprop(records (sndF I) κ ∗ levAts L lv ∗ bigSepL l (stageIn c) ∗ owing c (OL c (l.map st1)) ∗ pt c cc0_scratch0 (accT I c l)
        ∗ ((bigSepL l (stageOut I c) ∗ owing c 0 ∗ pt c cc0_scratch0 (accT I c [])) -∗ runs c (k ⟨⟩) Q))
      ⊢ runs c (stageAll c l >>= k) Q := by
  induction l with
  | nil =>
    simp only [stageAll, Prog.pure_eq_ret, Prog.bind_ret, bigSepL_nil, List.map_nil]
    iintro ⟨-, -, -, HO, Ha, Hk⟩
    iapply Hk
    isplitr; · iempintro
    isplitl [HO]; · iexact HO
    iexact Ha
  | cons j l ih =>
    simp only [stageAll, Prog.bind_assoc, bigSepL_cons']
    iintro ⟨#HR, #Hlev, ⟨Hi, His⟩, HO, Ha, Hk⟩
    iapply (stage_step I κ c j l (List.nodup_cons.mp hl).1)
    isplitr; · iexact HR
    isplitr; · iexact Hlev
    isplitl [Hi]; · iexact Hi
    isplitl [HO]; · iexact HO
    isplitl [Ha]; · iexact Ha
    iintro ⟨Ho, HO, Ha⟩
    iapply (ih (List.nodup_cons.mp hl).2)
    isplitr; · iexact HR
    isplitr; · iexact Hlev
    isplitl [His]; · iexact His
    isplitl [HO]; · iexact HO
    isplitl [Ha]; · iexact Ha
    iintro ⟨Hos, HO, Ha⟩
    iapply Hk
    isplitl [Ho Hos]
    · isplitl [Ho]; · iexact Ho
      iexact Hos
    isplitl [HO]; · iexact HO
    iexact Ha

/-- The same of a second-stage step. -/
def finalIn (j : Fin 8) : sProp 𝕄 := iprop(sent c (st1 j) ∗ toRecv c (st1 j))
def finalOut (j : Fin 8) : sProp 𝕄 := iprop(past c (st1 j) ∗ sPt c (st1 j) (sndF I c) ∗ rPt c (st1 j) (rcvF (sndF I) c))

theorem final_step (f : Out F) (j : Fin 8) (l : List (Fin 8)) (hj : j ∉ l) (k : PUnit → P F PUnit) (Q : PUnit → sProp 𝕄) :
    iprop(records (sndF I) κ ∗ levAts L lv ∗ finalIn c j ∗ owing c 0 ∗ pt c cc0_scratch0 (accT I c []) ∗ pt c cc0_stg5_0 (outT I c f (j :: l))
        ∗ ((finalOut I c j ∗ owing c 0 ∗ pt c cc0_scratch0 (accT I c []) ∗ pt c cc0_stg5_0 (outT I c f l)) -∗ runs c (k ⟨⟩) Q))
      ⊢ runs c (finalP j >>= k) Q := by
  unfold finalIn finalP
  simp only [Prog.bind_assoc, Prog.lift, Prog.bind_op, Prog.bind_ret]
  iintro ⟨#HR, #Hlev, ⟨Hs, Hr⟩, HO, Ha, Hy, Hk⟩
  iapply (wait_step (sndF I) κ c (st1 j) [] (fun _ h => absurd h List.not_mem_nil))
  isplitr; · iexact HR
  isplitr; · iexact Hlev
  isplitl [Hs]; · iexact Hs
  isplitl [Hr]; · iexact Hr
  isplitl [HO]; · iexact HO
  iintro ⟨Hp, Hs, Hr, HO⟩
  iapply (wp_load_rect 𝒱₀ (c : Thread nD τ) none Set.univ (m := aM) (r := arect j) (Finset.subset_univ _)) $$ Ha; iintro Ha
  unfold rPt
  iapply (wp_load_rect 𝒱₀ (c : Thread nD τ) none Set.univ (m := rM) (r := rect (st1 j)) (by rw [View.set_slice_whole])) $$ Hr; iintro Hr
  iapply (wp_load_rect 𝒱₀ (c : Thread nD τ) none Set.univ (m := yM) (r := arect j) (Finset.subset_univ _)) $$ Hy; iintro Hy
  iapply (wp_store 𝒱₀ (c : Thread nD τ) none Set.univ (m := yM) (r := arect j) (Mk := Finset.univ) (Finset.subset_univ _)) $$ Hy; iintro Hy
  rw [out_stage I c j l hj f]
  iapply Hk
  unfold finalOut rPt
  isplitl [Hp Hs Hr]
  · isplitl [Hp]; · iexact Hp
    isplitl [Hs]; · iexact Hs
    iexact Hr
  isplitl [HO]; · iexact HO
  isplitl [Ha]; · iexact Ha
  iexact Hy

theorem final_all (f : Out F) (l : List (Fin 8)) (hl : l.Nodup) (k : PUnit → P F PUnit) (Q : PUnit → sProp 𝕄) :
    iprop(records (sndF I) κ ∗ levAts L lv ∗ bigSepL l (finalIn c) ∗ owing c 0 ∗ pt c cc0_scratch0 (accT I c []) ∗ pt c cc0_stg5_0 (outT I c f l)
        ∗ ((bigSepL l (finalOut I c) ∗ owing c 0 ∗ pt c cc0_scratch0 (accT I c []) ∗ pt c cc0_stg5_0 (outT I c f [])) -∗ runs c (k ⟨⟩) Q))
      ⊢ runs c (finalAll l >>= k) Q := by
  induction l with
  | nil =>
    simp only [finalAll, Prog.pure_eq_ret, Prog.bind_ret, bigSepL_nil]
    iintro ⟨-, -, -, HO, Ha, Hy, Hk⟩
    iapply Hk
    isplitr; · iempintro
    isplitl [HO]; · iexact HO
    isplitl [Ha]; · iexact Ha
    iexact Hy
  | cons j l ih =>
    simp only [finalAll, Prog.bind_assoc, bigSepL_cons']
    iintro ⟨#HR, #Hlev, ⟨Hi, His⟩, HO, Ha, Hy, Hk⟩
    iapply (final_step I κ c f j l (List.nodup_cons.mp hl).1)
    isplitr; · iexact HR
    isplitr; · iexact Hlev
    isplitl [Hi]; · iexact Hi
    isplitl [HO]; · iexact HO
    isplitl [Ha]; · iexact Ha
    isplitl [Hy]; · iexact Hy
    iintro ⟨Ho, HO, Ha, Hy⟩
    iapply (ih (List.nodup_cons.mp hl).2)
    isplitr; · iexact HR
    isplitr; · iexact Hlev
    isplitl [His]; · iexact His
    isplitl [HO]; · iexact HO
    isplitl [Ha]; · iexact Ha
    isplitl [Hy]; · iexact Hy
    iintro ⟨Hos, HO, Ha, Hy⟩
    iapply Hk
    isplitl [Ho Hos]
    · isplitl [Ho]; · iexact Ho
      iexact Hos
    isplitl [HO]; · iexact HO
    isplitl [Ha]; · iexact Ha
    iexact Hy

/-! ## The partial product of one batch -/

/-- The five arguments in VMEM. -/
def args : sProp 𝕄 :=
  iprop(pt c cc0_stg0_0 (I c).x ∗ pt c cc0_stg1_0 (I c).wq ∗ pt c cc0_stg2_0 (I c).k ∗ pt c cc0_stg3_0 (I c).v ∗ pt c cc0_stg4_0 (I c).wo)

theorem batch_nodup : ∀ b : Fin 2, (batch b).Nodup := by decide

/-- What one batch's store leaves in the send buffer, on the batch's rows. -/
theorem snd_batch_pt (b : Fin 2) (fs : Cont F) :
    (((c : Thread nD τ).loc cc0_scratch1) ↦[rows (batch b).toFinset]{fullShare}
      ((sM.access (sbrect b)).write (Elt F) fs (shapeCast S1x1x128x512 (truncf .bf16 (pbV (I c) b) bitsLt_bf16_f32) shapeCasts_S128x512_S1x1x128x512) Finset.univ) : sProp 𝕄)
      = (((c : Thread nD τ).loc cc0_scratch1) ↦[rows (batch b).toFinset]{fullShare} (sndF I c)) :=
  pointsTo_congr fun z hz => snd_batch I c b fs z (List.mem_toFinset.mp ((mem_rows _ z).mp hz))

theorem attn_step (b : Fin 2) (fa : Acc F) (fs : Cont F) (k : PUnit → P F PUnit) (Q : PUnit → sProp 𝕄) :
    iprop(args I c ∗ pt c cc0_scratch0 fa ∗ bigSepL (batch b) (fun i => sPt c i fs)
        ∗ ((args I c ∗ pt c cc0_scratch0 (accW I c b fa) ∗ bigSepL (batch b) (fun i => sPt c i (sndF I c))) -∗ runs c (k ⟨⟩) Q))
      ⊢ runs c (attnP b (wqV (I c)) (woV (I c)) >>= k) Q := by
  have hset : (sM.access (sbrect b)).set ⊆ rows (batch b).toFinset := by
    intro z hz
    rw [View.set_slice_whole] at hz
    exact (mem_rows _ z).mpr (List.mem_toFinset.mpr ((batch_iff b z).mpr ((mem_sbrect b z).mp hz)))
  have hnd : (batch b).Nodup := batch_nodup b
  have hrows (f : Cont F) : bigSepL (batch b) (fun i => sPt c i f) = (((c : Thread nD τ).loc cc0_scratch1) ↦[rows (batch b).toFinset]{fullShare} f : sProp 𝕄) := by
    rw [sPt_rows, bigSep_eq_bigSepL_of_eq (batch b) rfl hnd]
  unfold args attnP loadK loadV
  rw [hrows, hrows]
  simp only [Prog.bind_assoc, Prog.lift, Prog.bind_op, Prog.bind_ret]
  iintro ⟨⟨Hx, Hq, Hkk, Hv, Ho⟩, Ha, Hs, Hk⟩
  iapply (wp_load_rect 𝒱₀ (c : Thread nD τ) none Set.univ (m := xM) (r := brect b) (Finset.subset_univ _)) $$ Hx; iintro Hx
  iapply (wp_load_rect 𝒱₀ (c : Thread nD τ) none Set.univ (m := kM) (r := krect b 0) (Finset.subset_univ _)) $$ Hkk; iintro Hkk
  iapply (wp_load_rect 𝒱₀ (c : Thread nD τ) none Set.univ (m := vM) (r := krect b 0) (Finset.subset_univ _)) $$ Hv; iintro Hv
  iapply (wp_load_rect 𝒱₀ (c : Thread nD τ) none Set.univ (m := kM) (r := krect b 1) (Finset.subset_univ _)) $$ Hkk; iintro Hkk
  iapply (wp_load_rect 𝒱₀ (c : Thread nD τ) none Set.univ (m := vM) (r := krect b 1) (Finset.subset_univ _)) $$ Hv; iintro Hv
  iapply (wp_load_rect 𝒱₀ (c : Thread nD τ) none Set.univ (m := kM) (r := krect b 2) (Finset.subset_univ _)) $$ Hkk; iintro Hkk
  iapply (wp_load_rect 𝒱₀ (c : Thread nD τ) none Set.univ (m := vM) (r := krect b 2) (Finset.subset_univ _)) $$ Hv; iintro Hv
  iapply (wp_load_rect 𝒱₀ (c : Thread nD τ) none Set.univ (m := kM) (r := krect b 3) (Finset.subset_univ _)) $$ Hkk; iintro Hkk
  iapply (wp_load_rect 𝒱₀ (c : Thread nD τ) none Set.univ (m := vM) (r := krect b 3) (Finset.subset_univ _)) $$ Hv; iintro Hv
  rw [show pbPay (wqV (I c)) (woV (I c)) (xV (I c) b) (kV (I c) b 0) (vV (I c) b 0) (kV (I c) b 1) (vV (I c) b 1) (kV (I c) b 2) (vV (I c) b 2) (kV (I c) b 3) (vV (I c) b 3)
    = pbV (I c) b from rfl]
  iapply (wp_load_rect 𝒱₀ (c : Thread nD τ) none Set.univ (m := aM) (r := brect b) (Finset.subset_univ _)) $$ Ha; iintro Ha
  iapply (wp_store 𝒱₀ (c : Thread nD τ) none Set.univ (m := aM) (r := brect b) (Mk := Finset.univ) (Finset.subset_univ _)) $$ Ha; iintro Ha
  iapply (wp_load_rect 𝒱₀ (c : Thread nD τ) none Set.univ (m := sM) (r := sbrect b) hset) $$ Hs; iintro Hs
  iapply (wp_store 𝒱₀ (c : Thread nD τ) none Set.univ (m := sM) (r := sbrect b) (Mk := Finset.univ) (by rw [View.setOn_univ]; exact hset)) $$ Hs; iintro Hs
  iapply Hk
  isplitl [Hx Hq Hkk Hv Ho]
  · isplitl [Hx]; · iexact Hx
    isplitl [Hq]; · iexact Hq
    isplitl [Hkk]; · iexact Hkk
    isplitl [Hv]; · iexact Hv
    iexact Ho
  isplitl [Ha]; · iexact Ha
  ihave Hs := (Entails.of_eq (snd_batch_pt I c b fs)) $$ Hs
  iexact Hs

end Cert.KernelIdeal.Run

end
-- ==== Proof.Device.lean ====
/- The body's run on one device, from the opened cells to the counters back at zero. -/
module

public import proofs.«01_k».proof.Proof.Body

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Transfers by stage and by batch -/

abbrev js : List (Fin 8) := [0, 1, 2, 3, 4, 5, 6, 7]
theorem js_nodup : js.Nodup := by decide
theorem js_univ (Φ : Fin 8 → sProp 𝕄) : bigSepL js Φ = bigSep Finset.univ Φ := (bigSep_univ_eq_bigSepL js (by decide) (by decide) Φ).symm
theorem all_sep (Φ : Fin 16 → sProp 𝕄) : bigSep Finset.univ Φ = bigSepL all Φ := bigSep_univ_eq_bigSepL all all_univ all_nodup Φ

/-- All transfers: the first stage's and the second's. -/
theorem halves (Φ : Fin 16 → sProp 𝕄) : bigSep Finset.univ Φ = iprop((bigSep Finset.univ fun j => Φ (st0 j)) ∗ bigSep Finset.univ fun j => Φ (st1 j)) := by
  rw [all_sep, show all = js.map st0 ++ js.map st1 from by decide, bigSepL_append, bigSepL_map, bigSepL_map, js_univ, js_univ]
/-- The first stage's: the first batch's and the second's. -/
theorem quarters (Φ : Fin 16 → sProp 𝕄) : (bigSep Finset.univ fun j => Φ (st0 j)) = iprop(bigSepL [0, 1, 2, 3] Φ ∗ bigSepL [4, 5, 6, 7] Φ) := by
  rw [← js_univ, ← bigSepL_map, show js.map st0 = [0, 1, 2, 3] ++ [4, 5, 6, 7] from by decide, bigSepL_append]
theorem thirds (Φ : Fin 16 → sProp 𝕄) :
    bigSep Finset.univ Φ = iprop((bigSepL [0, 1, 2, 3] Φ ∗ bigSepL [4, 5, 6, 7] Φ) ∗ bigSep Finset.univ fun j => Φ (st1 j)) := by rw [halves, quarters]
/-- All transfers: the ones to the one partner and the ones to the other. -/
theorem sides (Φ : Fin 16 → sProp 𝕄) : bigSep Finset.univ Φ = iprop(bigSepL (barL true) Φ ∗ bigSepL (barL false) Φ) := by
  rw [bigSep_univ_eq_bigSepL (barL true ++ barL false) (by decide) (by decide), bigSepL_append]

variable (I : Dev nD → Ins F) (κ : GSem nD τ sig → ℕ) (c : Dev nD)

/-- What a device hands its two partners with the barrier signals. -/
theorem give (fr : Cont F) :
    iprop(pt c cc0_scratch2 fr ∗ bigSep Finset.univ fun i => reached ER (recvCell c i) 0)
      ⊢ iprop(barPay (F := F) true (par true c) ∗ barPay false (par false c)) := by
  unfold barPay
  rw [par_par, par_par, ← sides, rPt_whole, ← bigSep_sep']
  refine bigSep_mono fun i _ => ?_
  show (_ : sProp 𝕄) ⊢ _
  unfold dest
  iintro ⟨H, H'⟩
  isplitl [H]; · iexists fr; iexact H
  iexact H'

/-- What it gets from them: every transfer's destination. -/
theorem take : iprop(barPay (F := F) true c ∗ barPay false c) ⊢ bigSep Finset.univ fun i => dest (F := F) (tgt i c) i := by
  rw [sides]
  exact Entails.of_eq rfl

/-- What a device starts the body with beside its buffers and what it owes. -/
def tickets : sProp 𝕄 :=
  iprop(records (sndF I) κ ∗ levAts L lv ∗ atPos ER (barCell c) 0 ∅ 0 ∗ cred (tallyAt (barCell c) () 2)
    ∗ dutyTok ER (barCell (par true c)) 0 true ∗ dutyTok ER (barCell (par false c)) 0 false
    ∗ (bigSep Finset.univ (tok c)) ∗ (bigSep Finset.univ (toRecv c)) ∗ bigSep Finset.univ fun i => reached ER (recvCell c i) 0)

/-- The three scratch buffers, at anything. -/
def scr : sProp 𝕄 := iprop((∃ f, pt c cc0_scratch0 f) ∗ (∃ f, pt c cc0_scratch1 f) ∗ ∃ f, pt c cc0_scratch2 f)

/-- The cells' counters. -/
def zeros : sProp 𝕄 := iprop(semVal (barCell c) 0 ∗ (bigSep Finset.univ fun i => semVal (sendCell c i) 0) ∗ bigSep Finset.univ fun i => semVal (recvCell c i) 0)

/-- The cells close. -/
theorem close : iprop(records (sndF I) κ ∗ atPos ER (barCell c) 1 ∅ 0 ∗ bigSep Finset.univ (past (F := F) c)) ⊢ |={Set.univ}=> zeros (F := F) c := by
  unfold past zeros
  rw [bigSep_sep']
  iintro ⟨#HR, Hb, Hs, Hr⟩
  ihave #HIb := (inv_at (sndF I) κ (bar_mem c)) $$ HR
  imod (Rounds.cell_close ER (rd (sndF I)) (Set.mem_univ (κ (barCell c))) (fun h => h) (R := 1) (duties_later (sndF I) (barCell c))) $$ [Hb] with Hb
  · isplitr; · iexact HIb
    iexact Hb
  ihave Hs := (bigSep_with_persistent (R := records (sndF I) κ) (S := Finset.univ) (Φ := fun i => (atPos ER (sendCell c i) 1 ∅ 0 : sProp 𝕄))
      (Ψ := fun i => (iprop(cellInv ER (rd (sndF I)) (κ (sendCell c i)) (sendCell c i) ∗ atPos ER (sendCell c i) 1 ∅ 0) : sProp 𝕄))
      (fun i _ => sep_mono_left (inv_at (sndF I) κ (send_mem c i)))) $$ [Hs]
  · isplitr; · iexact HR
    iexact Hs
  imod (Rounds.cells_close ER (rd (sndF I)) Finset.univ (fun i => sendCell c i) (fun i => κ (sendCell c i)) (fun _ _ => Set.mem_univ _) (fun _ _ h => h)
      (fun _ => 1) (fun i _ => duties_later (sndF I) (sendCell c i))) $$ Hs with Hs
  ihave Hr := (bigSep_with_persistent (R := records (sndF I) κ) (S := Finset.univ) (Φ := fun i => (atPos ER (recvCell c i) 1 ∅ 0 : sProp 𝕄))
      (Ψ := fun i => (iprop(cellInv ER (rd (sndF I)) (κ (recvCell c i)) (recvCell c i) ∗ atPos ER (recvCell c i) 1 ∅ 0) : sProp 𝕄))
      (fun i _ => sep_mono_left (inv_at (sndF I) κ (recv_mem c i)))) $$ [Hr]
  · isplitr; · iexact HR
    iexact Hr
  imod (Rounds.cells_close ER (rd (sndF I)) Finset.univ (fun i => recvCell c i) (fun i => κ (recvCell c i)) (fun _ _ => Set.mem_univ _) (fun _ _ h => h)
      (fun _ => 1) (fun i _ => duties_later (sndF I) (recvCell c i))) $$ Hr with Hr
  imodintro
  isplitl [Hb]; · iexact Hb
  isplitl [Hs]; · iexact Hs
  iexact Hr

/-- What a first-stage step leaves beside the transfer it started. -/
def stageRest (j : Fin 8) : sProp 𝕄 := iprop(past c (st0 j) ∗ sPt c (st0 j) (sndF I c) ∗ rPt c (st0 j) (rcvF (sndF I) c))

theorem stageOut_split : bigSepL js (stageOut I c) ⊢ iprop(bigSepL js (stageRest I c) ∗ bigSep Finset.univ fun j => sent (F := F) c (st1 j)) := by
  rw [js_univ, js_univ, ← bigSep_sep']
  refine bigSep_mono fun j _ => ?_
  show (_ : sProp 𝕄) ⊢ _
  unfold stageOut stageRest
  iintro ⟨H0, H1, H2, H3⟩
  isplitl [H0 H1 H2]
  · isplitl [H0]; · iexact H0
    isplitl [H1] <;> iassumption
  iexact H3

/-- The second stage's rows of the send buffer, at anything. -/
theorem rows_any (fs : Cont F) : (bigSep Finset.univ fun j => sPt c (st1 j) fs) ⊢ bigSep Finset.univ fun j => iprop(∃ f, sPt (F := F) c (st1 j) f) := by
  refine bigSep_mono fun j _ => ?_
  show (_ : sProp 𝕄) ⊢ _
  iintro H
  iexists fs; iexact H

theorem outT_all (f : Out F) : outT I c f js = f := by
  funext y
  have : ∀ j : Fin 8, j ∈ js := by decide
  unfold outT; rw [if_pos (this _)]

/-- From the two stages' leftovers: the cells past their round, and the two communication buffers whole. -/
theorem gather : iprop(bigSepL js (stageRest I c) ∗ bigSepL js (finalOut I c))
    ⊢ iprop((bigSep Finset.univ (past (F := F) c)) ∗ pt c cc0_scratch1 (sndF I c) ∗ pt c cc0_scratch2 (rcvF (sndF I) c)) := by
  rw [sPt_whole, rPt_whole, halves, halves (fun i => sPt c i (sndF I c)), halves (fun i => rPt c i (rcvF (sndF I) c)), js_univ, js_univ]
  unfold stageRest finalOut
  simp only [bigSep_sep']
  iintro ⟨⟨Hp0, Hs0, Hr0⟩, Hp1, Hs1, Hr1⟩
  isplitl [Hp0 Hp1]; · isplitl [Hp0] <;> iassumption
  isplitl [Hs0 Hs1]; · isplitl [Hs0] <;> iassumption
  isplitl [Hr0] <;> iassumption

set_option maxHeartbeats 1000000 in
theorem rest_run (Q : PUnit → sProp 𝕄) :
    iprop(tickets I κ c ∗ owing c (O₀ c) ∗ args I c ∗ (∃ f, pt c cc0_stg5_0 f) ∗ scr c
        ∗ ((zeros c ∗ owing c 0 ∗ args I c ∗ pt c cc0_stg5_0 (outF I c) ∗ scr c) -∗ Q ⟨⟩))
      ⊢ runs c (restP c) Q := by
  unfold tickets restP O₀ O₁
  rw [dev1_eq c, dev2_eq c]
  simp only [semSignalWord, semWaitWord, Prog.lift, Prog.bind_op, Prog.bind_ret, Prog.pure_eq_ret, Prog.bind_assoc]
  iintro ⟨⟨#HR, #Hlev, Hat, Hcb, Ht1, Ht0, Htok, Hrcv, #Hrc⟩, ⟨%W, HO⟩, Harg, ⟨%fy, Hy⟩, Hscr, Hk⟩
  unfold scr
  icases Hscr with ⟨⟨%fa, Ha⟩, ⟨%fs, Hs⟩, ⟨%fr, Hr⟩⟩
  ihave #HIb := (inv_at (sndF I) κ (bar_mem c)) $$ HR
  ihave #HI1 := (inv_at (sndF I) κ (bar_mem (par true c))) $$ HR
  ihave #HI0 := (inv_at (sndF I) κ (bar_mem (par false c))) $$ HR
  ihave #Hr1 := (reached_at (sndF I) κ (par true c)) $$ HR
  ihave #Hr0 := (reached_at (sndF I) κ (par false c)) $$ HR
  ihave Hg := (give c fr) $$ [Hr]
  · isplitl [Hr]; · iexact Hr
    iexact Hrc
  icases Hg with ⟨Hg1, Hg0⟩
  iapply (Rounds.wp_signal 𝒱₀ ER (rd (sndF I)) (c : Thread nD τ) none (dst := (par true c : Thread nD τ)) (κ := κ (barCell (par true c)))
      (d := true) (by rw [duties_bar]; exact Finset.mem_univ _) ((amount_bar (sndF I) (par true c) true).trans (by decide)) () (O₁ c) rfl) $$ [HO Ht1 Hg1]
  · isplitr; · iexact HI1
    isplitl [HO]; · iexact HO
    isplitl [Ht1]; · iexact Ht1
    isplitl [Hg1]; · rw [payload_bar]; iexact Hg1
    iexact Hr1
  iintro HO
  iapply (Rounds.wp_signal 𝒱₀ ER (rd (sndF I)) (c : Thread nD τ) none (dst := (par false c : Thread nD τ)) (κ := κ (barCell (par false c)))
      (d := false) (by rw [duties_bar]; exact Finset.mem_univ _) ((amount_bar (sndF I) (par false c) false).trans (by decide)) () (OL c all) rfl) $$ [HO Ht0 Hg0]
  · isplitr; · iexact HI0
    isplitl [HO]; · iexact HO
    isplitl [Ht0]; · iexact Ht0
    isplitl [Hg0]; · rw [payload_bar]; iexact Hg0
    iexact Hr0
  iintro HO
  unfold args
  icases Harg with ⟨Hx, Hq, Hkk, Hv, Ho⟩
  iapply (wp_load_rect 𝒱₀ (c : Thread nD τ) none Set.univ (m := qM) (r := Rect.unit (s := S512x256) ![0, 0] S512x256.size inb_S512x256_S512x256_0_0) (Finset.subset_univ _)) $$ Hq; iintro Hq
  iapply (wp_load_rect 𝒱₀ (c : Thread nD τ) none Set.univ (m := oM) (r := Rect.unit (s := S256x512) ![0, 0] S256x512.size inb_S256x512_S256x512_0_0) (Finset.subset_univ _)) $$ Ho; iintro Ho
  ihave Hs := (Entails.of_eq ((sPt_whole c fs).trans (thirds _))) $$ Hs
  icases Hs with ⟨⟨Hs0, Hs1⟩, Hs2⟩
  iapply (attn_step I c 0 fa fs)
  isplitl [Hx Hq Hkk Hv Ho]
  · unfold args
    isplitl [Hx]; · iexact Hx
    isplitl [Hq]; · iexact Hq
    isplitl [Hkk]; · iexact Hkk
    isplitl [Hv]; · iexact Hv
    iexact Ho
  isplitl [Ha]; · iexact Ha
  isplitl [Hs0]; · iexact Hs0
  iintro ⟨Harg, Ha, Hs0⟩
  iapply (Rounds.wp_wait_rest_token 𝒱₀ ER (rd (sndF I)) (c : Thread nD τ) none (κ := κ (barCell c))
      (wpE_semWait_eq 𝒱₀ (c : Thread nD τ) none Set.univ) (Set.mem_univ _) () (O := OL c all) (W := W) (R := 0) (m := 0) (T := ∅)
      (by rw [expect_bar]; decide)) $$ [Hcb HO Hat]
  · isplitr; · iexact HIb
    isplitl [Hcb]; · iexact Hcb
    isplitl [HO]; · iexact HO
    isplitr
    · iapply (mayWait c (.reg barS) 1 (le_of_eq (lv_bar c)) all (fun i _ => by omega)); iexact Hlev
    iexact Hat
  iintro ⟨HO, Hat, -, Hpay⟩
  ihave Hp := (Entails.of_eq (rest_bar (sndF I) c)) $$ Hpay
  ihave Hd := (take c) $$ Hp
  ihave Hsend := (Entails.of_eq ((bigSep_sep' Finset.univ (tok (F := F) c) (fun i => dest (tgt i c) i)).symm.trans
      (thirds (toSend c)))) $$ [Htok Hd]
  · isplitl [Htok] <;> iassumption
  icases Hsend with ⟨⟨Hd0, Hd1⟩, Hd2⟩
  iapply (send_all (sndF I) κ c [0, 1, 2, 3] [4, 5, 6, 7, 8, 9, 10, 11, 12, 13, 14, 15])
  isplitr; · iexact HR
  isplitl [Hd0]; · iexact Hd0
  isplitl [Hs0]; · iexact Hs0
  isplitl [HO]; · iexists _; iexact HO
  iintro ⟨Hsn0, HO⟩
  iapply (attn_step I c 1 _ fs)
  isplitl [Harg]; · iexact Harg
  isplitl [Ha]; · iexact Ha
  isplitl [Hs1]; · iexact Hs1
  iintro ⟨Harg, Ha, Hs1⟩
  rw [acc_both]
  iapply (send_all (sndF I) κ c [4, 5, 6, 7] [8, 9, 10, 11, 12, 13, 14, 15])
  isplitr; · iexact HR
  isplitl [Hd1]; · iexact Hd1
  isplitl [Hs1]; · iexact Hs1
  isplitl [HO]; · iexact HO
  iintro ⟨Hsn1, HO⟩
  ihave Hrcv := (Entails.of_eq (halves (toRecv (F := F) c))) $$ Hrcv
  icases Hrcv with ⟨Hrcv0, Hrcv1⟩
  ihave Hsn := (Entails.of_eq (quarters (sent (F := F) c)).symm) $$ [Hsn0 Hsn1]
  · isplitl [Hsn0] <;> iassumption
  iapply (stage_all I κ c js js_nodup)
  isplitr; · iexact HR
  isplitr; · iexact Hlev
  isplitl [Hsn Hrcv0 Hd2 Hs2]
  · rw [js_univ]; unfold stageIn; simp only [bigSep_sep']
    isplitl [Hsn]; · iexact Hsn
    isplitl [Hrcv0]; · iexact Hrcv0
    isplitl [Hd2]; · iexact Hd2
    iapply (rows_any c fs)
    iexact Hs2
  isplitl [HO]; · iexact HO
  isplitl [Ha]; · iexact Ha
  iintro ⟨Hst, HO, Ha⟩
  ihave Hst := (stageOut_split I c) $$ Hst
  icases Hst with ⟨Hst, Hsn⟩
  rw [← Prog.bind_pure (finalAll js)]
  iapply (final_all I κ c fy js js_nodup)
  isplitr; · iexact HR
  isplitr; · iexact Hlev
  isplitl [Hsn Hrcv1]
  · rw [js_univ]; unfold finalIn; simp only [bigSep_sep']
    isplitl [Hsn] <;> iassumption
  isplitl [HO]; · iexact HO
  isplitl [Ha]; · iexact Ha
  isplitl [Hy]; · rw [outT_all]; iexact Hy
  iintro ⟨Hfo, HO, Ha, Hy⟩
  ihave Hg := (gather I c) $$ [Hst Hfo]
  · isplitl [Hst] <;> iassumption
  icases Hg with ⟨Hp, Hs, Hr⟩
  unfold runs
  rw [Prog.pure_eq_ret, wp_ret]
  imod (close I κ c) $$ [Hat Hp] with Hz
  · isplitr; · iexact HR
    isplitl [Hat]; · iexact Hat
    iexact Hp
  imodintro
  iapply Hk
  isplitl [Hz]; · iexact Hz
  isplitl [HO]; · iexact HO
  isplitl [Harg]; · unfold args; iexact Harg
  isplitl [Hy]; · iexact Hy
  isplitl [Ha]; · iexists _; iexact Ha
  isplitl [Hs]; · iexists _; iexact Hs
  iexists _; iexact Hr

end Cert.KernelIdeal.Run

end
-- ==== Proof.Region.lean ====
/- The kernel's region of the program: its proof data, the body's obligation, the transfer cells' opening at the
   region's entry, and the region's record. -/
module

public import proofs.«01_k».proof.Proof.Device
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The staged arguments, and the proof data -/

/-- What device `c` stages: its arguments as the host operations leave them. -/
def ins (c : Dev nD) : Ins F where
  x := (win0_0.blk t0_0).view.read (Elt F) (V1 m c main_arg0)
  wq := (win0_1.blk t0_0).view.read (Elt F) (V1 m c main_arg1)
  k := (win0_2.blk t0_0).view.read (Elt F) (V1 m c main_v10)
  v := (win0_3.blk t0_0).view.read (Elt F) (V1 m c main_v15)
  wo := (win0_4.blk t0_0).view.read (Elt F) (V1 m c main_arg4)

/-- What the region leaves: the result array at the kernel's output. -/
def outs : Outs (F := F) := fun _ r c => Function.update (β := fun r => Buf (Elt F) ((c : Thread nD τ).loc r)) (fun r => m ((c : Thread nD τ).loc r)) main_v16
  (outF (ins m) c) r
theorem outs_v16 (n : ℕ) (c : Dev nD) : outs m n main_v16 c = outF (ins m) c := by unfold outs; rw [Function.update_self]

/-- Before the body; -/
def before₀ (c : Dev nD) : sProp 𝕄 := iprop((∃ κ, tickets (ins m) κ c) ∗ scr c ∗ ∃ r, prngReg c r)
/-- and after it. -/
def after₀ (c : Dev nD) : sProp 𝕄 := iprop(zeros c ∗ scr (F := F) c ∗ ∃ r, prngReg c r)

def dat (c : Dev nD) : Dat τ (Elt F) Unit ℕ UU ℕ cfg0 c where
  A w := V1 m c ((cfg0.win w).arr.view.loc (c : Thread nD τ)).2
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => outF (ins m) c
    | ⟨_ + 6, h⟩ => absurd h (Nat.not_lt.2 (Nat.le_add_left _ _))
  Φ t := match t with
    | ⟨0, _⟩ => before₀ m c
    | ⟨_ + 1, _⟩ => after₀ c
  q _ := fullShare
  owed t := match t with
    | ⟨0, _⟩ => O₀ c
    | ⟨_ + 1, _⟩ => 0

abbrev pdats : (p : Fin 1) → (c : Dev nD) → Dat τ (Elt F) Unit ℕ UU ℕ (cfgs p) c := fun _ => dat m

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = iprop(∃ f : b.ty.Contents (Elt F), ⌜f = X⌝ ∗ pt c b f) := by
  unfold owns
  simp only [Memref.view_whole, View.read_whole, View.set_whole]

/-- One staging buffer's contents, named. -/
theorem staged (c : Dev nD) (b : Ref sig .tc) (X : b.ty.Contents (Elt F)) :
    (pt c b X : sProp 𝕄) ⊢ owns (Ix := Unit) (Name := ℕ) (U := UU) (Lvl := ℕ) (c : Thread nD τ) (Memref.whole b) fullShare X := by
  rw [owns_whole_eq]
  iintro H
  iexists X
  isplitr; · ipureintro; rfl
  iexact H
theorem unstaged (c : Dev nD) (b : Ref sig .tc) (X : b.ty.Contents (Elt F)) :
    owns (Ix := Unit) (Name := ℕ) (U := UU) (Lvl := ℕ) (c : Thread nD τ) (Memref.whole b) fullShare X ⊢ (pt c b X : sProp 𝕄) := by
  rw [owns_whole_eq]
  iintro ⟨%f, %h, H⟩
  rw [← h]; iexact H

theorem owing_owesAt (c : Dev nD) (t : Fin (cfg0.N + 1)) (O : CellTallies nD τ sig Unit) (h : (dat m c).owed t = O) :
    (owing c O : sProp 𝕄) ⊢ (dat m c).owesAt () t := by
  unfold Dat.owesAt Pipeline.owesWithin; rw [h]
  iintro ⟨%W, HO⟩
  iexists W
  isplitr; · ipureintro; exact fun _ _ => Or.inl trivial
  iexact HO
theorem owesAt_owing (c : Dev nD) (t : Fin (cfg0.N + 1)) (O : CellTallies nD τ sig Unit) (h : (dat m c).owed t = O) :
    (dat m c).owesAt () t ⊢ (owing c O : sProp 𝕄) := by
  unfold Dat.owesAt Pipeline.owesWithin; rw [h]
  iintro ⟨%W, -, HO⟩
  iexists W; iexact HO

section Before
variable (c : Dev nD)
theorem before_x (d) : (dat m c).before (0 : Fin 6) t0_0 d = (ins m c).x := by unfold Dat.before; rw [if_pos (fetch0_0 t0_0)]; rfl
theorem before_wq (d) : (dat m c).before (1 : Fin 6) t0_0 d = (ins m c).wq := by unfold Dat.before; rw [if_pos (fetch0_1 t0_0)]; rfl
theorem before_k (d) : (dat m c).before (2 : Fin 6) t0_0 d = (ins m c).k := by unfold Dat.before; rw [if_pos (fetch0_2 t0_0)]; rfl
theorem before_v (d) : (dat m c).before (3 : Fin 6) t0_0 d = (ins m c).v := by unfold Dat.before; rw [if_pos (fetch0_3 t0_0)]; rfl
theorem before_wo (d) : (dat m c).before (4 : Fin 6) t0_0 d = (ins m c).wo := by unfold Dat.before; rw [if_pos (fetch0_4 t0_0)]; rfl
end Before

/-- The six staging buffers as the body finds them, -/
def stagedIn (c : Dev nD) : sProp 𝕄 :=
  iprop((∃ d, owns (c : Thread nD τ) (Memref.whole cc0_stg0_0) fullShare ((dat m c).before (0 : Fin 6) t0_0 d))
    ∗ (∃ d, owns (c : Thread nD τ) (Memref.whole cc0_stg1_0) fullShare ((dat m c).before (1 : Fin 6) t0_0 d))
    ∗ (∃ d, owns (c : Thread nD τ) (Memref.whole cc0_stg2_0) fullShare ((dat m c).before (2 : Fin 6) t0_0 d))
    ∗ (∃ d, owns (c : Thread nD τ) (Memref.whole cc0_stg3_0) fullShare ((dat m c).before (3 : Fin 6) t0_0 d))
    ∗ (∃ d, owns (c : Thread nD τ) (Memref.whole cc0_stg4_0) fullShare ((dat m c).before (4 : Fin 6) t0_0 d))
    ∗ (∃ d, owns (c : Thread nD τ) (Memref.whole cc0_stg5_0) fullShare ((dat m c).before (5 : Fin 6) t0_0 d)))
/-- and as it leaves them. -/
def stagedOut (c : Dev nD) : sProp 𝕄 :=
  iprop(owns (c : Thread nD τ) (Memref.whole cc0_stg0_0) fullShare (ins m c).x ∗ owns (c : Thread nD τ) (Memref.whole cc0_stg1_0) fullShare (ins m c).wq
    ∗ owns (c : Thread nD τ) (Memref.whole cc0_stg2_0) fullShare (ins m c).k ∗ owns (c : Thread nD τ) (Memref.whole cc0_stg3_0) fullShare (ins m c).v
    ∗ owns (c : Thread nD τ) (Memref.whole cc0_stg4_0) fullShare (ins m c).wo ∗ owns (c : Thread nD τ) (Memref.whole cc0_stg5_0) fullShare (outF (ins m) c))

theorem stagedIn_args (c : Dev nD) : stagedIn m c ⊢ iprop(args (ins m) c ∗ ∃ f, pt c cc0_stg5_0 f) := by
  unfold stagedIn args
  simp only [before_x, before_wq, before_k, before_v, before_wo]
  iintro ⟨⟨%d0, H0⟩, ⟨%d1, H1⟩, ⟨%d2, H2⟩, ⟨%d3, H3⟩, ⟨%d4, H4⟩, ⟨%d5, H5⟩⟩
  isplitl [H0 H1 H2 H3 H4]
  · isplitl [H0]; · iapply (unstaged c); iexact H0
    isplitl [H1]; · iapply (unstaged c); iexact H1
    isplitl [H2]; · iapply (unstaged c); iexact H2
    isplitl [H3]; · iapply (unstaged c); iexact H3
    iapply (unstaged c); iexact H4
  iexists _; iapply (unstaged c); iexact H5

theorem args_stagedOut (c : Dev nD) : iprop(args (ins m) c ∗ pt c cc0_stg5_0 (outF (ins m) c)) ⊢ stagedOut m c := by
  unfold stagedOut args
  iintro ⟨⟨H0, H1, H2, H3, H4⟩, H5⟩
  isplitl [H0]; · iapply (staged c); iexact H0
  isplitl [H1]; · iapply (staged c); iexact H1
  isplitl [H2]; · iapply (staged c); iexact H2
  isplitl [H3]; · iapply (staged c); iexact H3
  isplitl [H4]; · iapply (staged c); iexact H4
  iapply (staged c); iexact H5

/-- The body from its invariant before to its invariant after. -/
theorem body_run (c : Dev nD) :
    iprop(before₀ m c ∗ (dat m c).owesAt () t0_0.castSucc ∗ stagedIn m c)
      ⊢ runs c bodyP fun _ => iprop(after₀ c ∗ (dat m c).owesAt () t0_0.succ ∗ stagedOut m c) := by
  unfold before₀ after₀ bodyP runs
  simp only [Prog.lift, Prog.bind_op, Prog.bind_ret]
  rw [wp_deviceId]
  iintro ⟨⟨⟨%κ, Ht⟩, Hscr, Hp⟩, HO, Hst⟩
  ihave HO := (owesAt_owing m c t0_0.castSucc (O₀ c) rfl) $$ HO
  ihave Hst := (stagedIn_args m c) $$ Hst
  icases Hst with ⟨Harg, Hy⟩
  iapply (rest_run (ins m) κ c)
  isplitl [Ht]; · iexact Ht
  isplitl [HO]; · iexact HO
  isplitl [Harg]; · iexact Harg
  isplitl [Hy]; · iexact Hy
  isplitl [Hscr]; · iexact Hscr
  iintro ⟨Hz, HO, Harg, Hy, Hscr⟩
  isplitl [Hz Hscr Hp]
  · isplitl [Hz]; · iexact Hz
    isplitl [Hscr]; · iexact Hscr
    iexact Hp
  isplitl [HO]; · iapply (owing_owesAt m c t0_0.succ 0 rfl); iexact HO
  iapply (args_stagedOut m c)
  isplitl [Harg] <;> iassumption

theorem body_obligation (c : Dev nD) : BodyObligation (dat m c) defs₀ 𝒱₀ () Set.univ := fun t => by
  obtain rfl := fin_N0 t
  rw [bigSep_W0, bigSep_W0]
  show iprop(before₀ m c ∗ (dat m c).owesAt () t0_0.castSucc ∗ stagedIn m c)
      ⊢ runs c (cc0_body xM (Memref.isWhole_whole _) qM (Memref.isWhole_whole _) kM (Memref.isWhole_whole _) vM (Memref.isWhole_whole _)
        oM (Memref.isWhole_whole _) yM (Memref.isWhole_whole _) aM (Memref.isWhole_whole _) sM (Memref.isWhole_whole _) rM (Memref.isWhole_whole _)
        cc0_scratch3 cc0_scratch4) fun _ => iprop(after₀ c ∗ (dat m c).owesAt () t0_0.succ ∗ stagedOut m c)
  rw [body_eq]
  exact body_run m c

/-! ## The arrays: a window's one block is its whole array -/

theorem read_arg0 (c : Dev nD) (f : Buf (Elt F) ((c : Thread nD τ).loc main_arg0)) : (win0_0.blk t0_0).view.read (Elt F) f = f :=
  Memref.read_access_unit_zero (Elt F) main_arg0 (off := fun a => win0_0.index t0_0 a * win0_0.size a) (funext fun a => Nat.zero_mul _) _ f
theorem read_arg1 (c : Dev nD) (f : Buf (Elt F) ((c : Thread nD τ).loc main_arg1)) : (win0_1.blk t0_0).view.read (Elt F) f = f :=
  Memref.read_access_unit_zero (Elt F) main_arg1 (off := fun a => win0_1.index t0_0 a * win0_1.size a) (funext fun a => Nat.zero_mul _) _ f
theorem read_v10 (c : Dev nD) (f : Buf (Elt F) ((c : Thread nD τ).loc main_v10)) : (win0_2.blk t0_0).view.read (Elt F) f = f :=
  Memref.read_access_unit_zero (Elt F) main_v10 (off := fun a => win0_2.index t0_0 a * win0_2.size a) (funext fun a => Nat.zero_mul _) _ f
theorem read_v15 (c : Dev nD) (f : Buf (Elt F) ((c : Thread nD τ).loc main_v15)) : (win0_3.blk t0_0).view.read (Elt F) f = f :=
  Memref.read_access_unit_zero (Elt F) main_v15 (off := fun a => win0_3.index t0_0 a * win0_3.size a) (funext fun a => Nat.zero_mul _) _ f
theorem read_arg4 (c : Dev nD) (f : Buf (Elt F) ((c : Thread nD τ).loc main_arg4)) : (win0_4.blk t0_0).view.read (Elt F) f = f :=
  Memref.read_access_unit_zero (Elt F) main_arg4 (off := fun a => win0_4.index t0_0 a * win0_4.size a) (funext fun a => Nat.zero_mul _) _ f
theorem read_v16 (c : Dev nD) (f : Buf (Elt F) ((c : Thread nD τ).loc main_v16)) : (win0_5.blk t0_0).view.read (Elt F) f = f :=
  Memref.read_access_unit_zero (Elt F) main_v16 (off := fun a => win0_5.index t0_0 a * win0_5.size a) (funext fun a => Nat.zero_mul _) _ f

/-- The result array after the region. -/
theorem final_v16 (c : Dev nD) : (dat m c).arrAt (5 : Fin 6) cfg0.N = outF (ins m) c := by
  have h : ((cfg0.win (5 : Fin 6)).blk t0_0).view.read (Elt F) ((dat m c).arrAt (5 : Fin 6) cfg0.N) = (dat m c).flushed (5 : Fin 6) t0_0 := by
    rw [show cfg0.N = t0_0.val + 1 from rfl, (dat m c).arrAt_succ (5 : Fin 6) t0_0, flush0_5, if_pos rfl]
    exact View.read_write_univ _ _
  exact (read_v16 c _).symm.trans (h.trans (show (cfg0.win (5 : Fin 6)).cut _ ((dat m c).after (5 : Fin 6) t0_0) = _ from funext fun _ => rfl))

theorem arr_first (c : Dev nD) (w : Fin 6) : (dat m c).arrAt w 0 = V1 m c (Proc.devRef .tc (Pipeline.arrRef spec0 w)) := by
  fin_cases w <;> rfl
theorem arr_last (c : Dev nD) (w : Fin 6) : (dat m c).arrAt w cfg0.N = V2 m (outs m) c (Proc.devRef .tc (Pipeline.arrRef spec0 w)) := by
  have h (w : Fin 6) (hi : (cfg0.win w).isOut = false) (hn : Pipeline.arrRef spec0 w ∉ ([main_v16] : List (Ref sig .tc))) :
      (dat m c).arrAt w cfg0.N = V2 m (outs m) c (Proc.devRef .tc (Pipeline.arrRef spec0 w)) :=
    ((dat m c).arrAt_in w hi _).trans ((arr_first m c w).trans (V2_of m (outs m) c _ hn).symm)
  match w with
  | 0 => exact h 0 rfl (by decide)
  | 1 => exact h 1 rfl (by decide)
  | 2 => exact h 2 rfl (by decide)
  | 3 => exact h 3 rfl (by decide)
  | 4 => exact h 4 rfl (by decide)
  | 5 =>
    refine (final_v16 m c).trans ?_
    show _ = Function.update (V1 m c) (Proc.devRef .tc main_v16) (outs m 2 main_v16 c) (Proc.devRef .tc main_v16)
    rw [Function.update_self, outs_v16]

/-! ## The transfer cells open at the region's entry -/

/-- The transfer semaphores: the send ones and the receive ones. -/
theorem cells_split (Φ : SemLoc sig → sProp 𝕄) :
    (bigSep Finset.univ fun k => Φ (osem k)) = iprop((bigSep Finset.univ fun i => Φ (.dma (sS i))) ∗ bigSep Finset.univ fun i => Φ (.dma (rS i))) := by
  rw [bigSep_univ_eq_bigSepL (all.map kS ++ all.map kR) (by decide) (by decide), bigSepL_append, bigSepL_map, bigSepL_map, ← all_sep, ← all_sep]
  simp only [osem_send, osem_recv]

/-- What a device holds from the launch to the region's entry, beside its buffers and what it owes. -/
def dealt (κ : GSem nD τ sig → ℕ) (c : Dev nD) : sProp 𝕄 :=
  iprop(records (sndF (ins m)) κ ∗ atPos ER (barCell c) 0 ∅ 0 ∗ cred (tallyAt (barCell c) () 2)
    ∗ dutyTok ER (barCell (par true c)) 0 true ∗ dutyTok ER (barCell (par false c)) 0 false
    ∗ (bigSep Finset.univ fun i => dutyTok ER (sendCell c i) 0 false) ∗ (bigSep Finset.univ fun i => dutyTok ER (recvCell (tgt i c) i) 0 false)
    ∗ (bigSep Finset.univ fun i => cred (tallyAt (recvCell c i) () N))
    ∗ bigSep Finset.univ fun k => openTok ER ((c : Thread nD τ), osem k))

theorem opening (c : Dev nD) :
    iprop((∃ κ, dealt m κ c) ∗ Pipeline.ownSems0 osem c ∗ levAts L lv) ⊢ (|={Set.univ}=> ∃ κ, tickets (ins m) κ c : sProp 𝕄) := by
  unfold dealt Pipeline.ownSems0
  iintro ⟨⟨%κ, #HR, Hb, Hcb, Ht1, Ht0, Hts, Htr, Hcr, Ho⟩, Hv, #Hlev⟩
  ihave Ho := (bigSep_with_persistent (R := records (sndF (ins m)) κ) (S := Finset.univ) (Φ := fun k => (openTok ER ((c : Thread nD τ), osem k) : sProp 𝕄))
      (Ψ := fun k => (iprop(cellInv ER (rd (sndF (ins m))) (κ ((c : Thread nD τ), osem k)) ((c : Thread nD τ), osem k) ∗ openTok ER ((c : Thread nD τ), osem k)) : sProp 𝕄))
      (fun k _ => sep_mono_left (inv_at (sndF (ins m)) κ (sc_mem c k)))) $$ [Ho]
  · isplitr; · iexact HR
    iexact Ho
  imod (Rounds.cells_open ER (rd (sndF (ins m))) Finset.univ (fun k => ((c : Thread nD τ), osem k)) (fun k => κ ((c : Thread nD τ), osem k))
      (fun _ _ => Set.mem_univ _)) $$ [Ho Hv] with H
  · isplitl [Ho] <;> iassumption
  imodintro
  ihave H := (Entails.of_eq (cells_split fun sm => iprop(atPos ER ((c : Thread nD τ), sm) 0 ∅ 0 ∗ reached ER ((c : Thread nD τ), sm) 0))) $$ H
  simp only [bigSep_sep']
  icases H with ⟨⟨Has, Hrs⟩, Har, Hrr⟩
  iexists κ
  unfold tickets tok toRecv
  simp only [bigSep_sep']
  isplitr; · iexact HR
  isplitr; · iexact Hlev
  isplitl [Hb]; · iexact Hb
  isplitl [Hcb]; · iexact Hcb
  isplitl [Ht1]; · iexact Ht1
  isplitl [Ht0]; · iexact Ht0
  isplitl [Has Hrs Hts Htr]
  · isplitl [Has]; · iexact Has
    isplitl [Hrs]; · iexact Hrs
    isplitl [Hts] <;> iassumption
  isplitl [Hcr Har]; · isplitl [Hcr] <;> iassumption
  iexact Hrr

/-! ## The region's record -/

theorem own_facts : Pipeline.OwnSemFacts spec0 osem := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin 6) : (dat m c).share w = fullShare := by unfold Dat.share; split <;> rfl

theorem owed_level (c : Dev nD) (t : Fin (cfg0.N + 1)) (g : GSem nD τ sig) (u : Unit) (h : 0 < (dat m c).owed t g u) : u ∈ L g ∧ 0 < lv g u := by
  match t, h with
  | ⟨0, _⟩, h => exact O₀_level h
  | ⟨_ + 1, _⟩, h => exact absurd h (Nat.lt_irrefl 0)

theorem staging_level (c : Dev nD) : ∀ (w : Fin 6) (s : Fin (spec0 w).nbuf), lv ((c : Thread nD τ), .dma ((spec0 w).sem s)) () = 0
  | 0, ⟨0, _⟩ | 1, ⟨0, _⟩ | 2, ⟨0, _⟩ | 3, ⟨0, _⟩ | 4, ⟨0, _⟩ | 5, ⟨0, _⟩ => rfl
  | 0, ⟨_ + 1, h⟩ | 1, ⟨_ + 1, h⟩ | 2, ⟨_ + 1, h⟩ | 3, ⟨_ + 1, h⟩ | 4, ⟨_ + 1, h⟩ | 5, ⟨_ + 1, h⟩ => absurd h (Nat.not_lt.2 (Nat.le_add_left _ _))

/-- The unscoped buffers that are no window's array. -/
abbrev restRefs : Finset (DevRef τ sig) := Pipeline.ucRefs τ sig \ Pipeline.arrRefs (τ := τ) spec0

theorem rest_kept (c : Dev nD) (b : DevRef τ sig) (hb : b ∉ Pipeline.arrRefs (τ := τ) spec0) : V2 m (outs m) c b = V1 m c b := by
  have h : (Proc.devRef .tc main_v16 : DevRef τ sig) ∈ Pipeline.arrRefs (τ := τ) spec0 :=
    Finset.mem_map.mpr ⟨main_v16, Finset.mem_image.mpr ⟨5, Finset.mem_univ _, rfl⟩, rfl⟩
  exact Function.update_of_ne (fun e : b = Proc.devRef .tc main_v16 => hb (by rw [e]; exact h)) _ _

theorem entering (c : Dev nD) :
    iprop(Pipeline.scopedRest spec0 c ∗ (∃ r, prngReg c r) ∗ StableHlo.held (c.tc : Thread nD τ) ∅ (V1 m c) ∗ ∃ κ, tickets (ins m) κ c)
      ⊢ (before₀ m c : sProp 𝕄) := by
  rw [scopedRest0_eq]
  unfold before₀ scr
  iintro ⟨Hs, Hp, -, Ht⟩
  isplitl [Ht]; · iexact Ht
  isplitl [Hs]; · iexact Hs
  iexact Hp

theorem leaving (c : Dev nD) :
    (after₀ (F := F) c : sProp 𝕄) ⊢ iprop(Pipeline.scopedRest spec0 c ∗ (∃ r, prngReg c r) ∗ StableHlo.held (c.tc : Thread nD τ) ∅ (V2 m (outs m) c)
        ∗ Pipeline.ownSems0 osem c ∗ semVal (barCell c) 0) := by
  rw [scopedRest0_eq]
  unfold after₀ scr zeros Pipeline.ownSems0 StableHlo.held
  rw [bigSep_empty, cells_split fun sm => (semVal ((c : Thread nD τ), sm) 0 : sProp 𝕄)]
  iintro ⟨⟨Hb, Hss, Hrs⟩, Hs, Hp⟩
  isplitl [Hs]; · iexact Hs
  isplitl [Hp]; · iexact Hp
  isplitr; · iempintro
  isplitl [Hss Hrs]; · isplitl [Hss] <;> iassumption
  iexact Hb

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ restRefs (Finset.empty_subset _) kit rfl (fun c => (body_obligation m c).loose)
    (fun _ => 0) O₀ (fun c => (zero_add (O₀ c)).symm) (fun _ => rfl) (fun _ => rfl) (share_full m)
    (V1 m) (V2 m (outs m)) (fun c b hb => rest_kept m c b (Finset.mem_sdiff.mp (Finset.mem_sdiff.mp hb).1).2)
    (fun c => iprop(∃ κ, dealt m κ c)) (fun c => semVal (barCell c) 0) (fun c => iprop(∃ κ, tickets (ins m) κ c)) (fun c => semVal (barCell c) 0)
    (opening m) (entering m) (leaving m)
    (fun c => by iintro H; imodintro; iexact H)
    (fun _ => 0)
    ⟨fun c w s => by rw [L_tc]; exact Finset.mem_singleton_self _, fun c w s => le_of_eq (staging_level c w s), fun c t g u h => owed_level m c t g u h⟩
    (fun _ => iprop(emp))
    (arr_first m) (arr_last m)

end Cert.KernelIdeal.Run

end
-- ==== Proof.Launch.lean ====
/- The run of the whole program on four devices: what the launch deals to each device, the host operations, the
   kernel, and what every final state has. -/
module

public import proofs.«01_k».proof.Proof.Region
public import Idealize.ShloMosaic.Lib.Quiescent
public import Idealize.ShloMosaic.Harness.Basic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The duties' tokens -/

theorem dma_ne_reg {q : DmaSem sig} {s : Sem sig} : (SemLoc.dma q : SemLoc sig) ≠ .reg s := fun h => by cases h
theorem osem_ne_bar (k : Fin 32) : osem k ≠ .reg barS := dma_ne_reg

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def barTok : Dev nD × Bool ↪ GSem nD τ sig × ℕ × Bool :=
  ⟨fun cb => (barCell cb.1, 0, cb.2), fun _ _ h =>
    Prod.ext (congrArg (fun t : GSem nD τ sig × ℕ × Bool => t.1.1.1) h) (congrArg (fun t : GSem nD τ sig × ℕ × Bool => t.2.2) h)⟩
def scTok : Dev nD × Fin 32 ↪ GSem nD τ sig × ℕ × Bool :=
  ⟨fun ck => (((ck.1 : Thread nD τ), osem ck.2), 0, false), fun _ _ h =>
    Prod.ext (congrArg (fun t : GSem nD τ sig × ℕ × Bool => t.1.1.1) h) (osem_inj (congrArg (fun t : GSem nD τ sig × ℕ × Bool => t.1.2) h))⟩

/-- One token per duty: two at each barrier cell, one at each transfer cell. -/
def tokens : Finset (GSem nD τ sig × ℕ × Bool) := Finset.univ.map barTok ∪ Finset.univ.map scTok

theorem disjoint_tokens : Disjoint (Finset.univ.map barTok) (Finset.univ.map scTok) := by
  rw [Finset.disjoint_left]
  rintro t h₁ h₂
  obtain ⟨cb, -, rfl⟩ := Finset.mem_map.mp h₁
  obtain ⟨ck, -, h⟩ := Finset.mem_map.mp h₂
  exact osem_ne_bar ck.2 (congrArg (fun t : GSem nD τ sig × ℕ × Bool => t.1.2) h)

/-- The device and transfer at the other end. -/
def turn : Dev nD × Fin 16 ≃ Dev nD × Fin 16 :=
  ⟨fun ci => (tgt ci.2 ci.1, ci.2), fun ci => (tgt ci.2 ci.1, ci.2), fun ci => Prod.ext (tgt_tgt _ _) rfl, fun ci => Prod.ext (tgt_tgt _ _) rfl⟩

/-- The tokens of the duties device `c` pays. -/
def dues (c : Dev nD) : sProp 𝕄 :=
  iprop((dutyTok ER (barCell (par true c)) 0 true ∗ dutyTok ER (barCell (par false c)) 0 false)
    ∗ (bigSep Finset.univ fun i => dutyTok ER (sendCell c i) 0 false) ∗ bigSep Finset.univ fun i => dutyTok ER (recvCell (tgt i c) i) 0 false)

/-- Every token, each with the device that pays its duty. -/
theorem tokens_dealt :
    bigSep tokens (fun x => (dutyTok ER x.1 x.2.1 x.2.2 : sProp 𝕄)) = bigSep Finset.univ fun c : Dev nD => dues c := by
  have hb : bigSep (Finset.univ.map barTok) (fun x => (dutyTok ER x.1 x.2.1 x.2.2 : sProp 𝕄))
      = iprop((bigSep Finset.univ fun c : Dev nD => dutyTok ER (barCell (par true c)) 0 true)
          ∗ bigSep Finset.univ fun c : Dev nD => dutyTok ER (barCell (par false c)) 0 false) := by
    rw [bigSep_map, bigSep_univ_prod, bigSep_congr (s := Finset.univ)
      (Ψ := fun c : Dev nD => iprop(dutyTok ER (barCell c) 0 true ∗ dutyTok ER (barCell c) 0 false)) fun c _ => by
        rw [bigSep_univ_eq_bigSepL [true, false] (by decide) (by decide), bigSepL_cons_cons, bigSepL_singleton]; rfl,
      bigSep_sep', bigSep_univ_equiv (swap true) (fun c : Dev nD => (dutyTok ER (barCell c) 0 true : sProp 𝕄)),
      bigSep_univ_equiv (swap false) (fun c : Dev nD => (dutyTok ER (barCell c) 0 false : sProp 𝕄))]
    rfl
  have hr : (bigSep Finset.univ fun c : Dev nD => bigSep Finset.univ fun i => (dutyTok ER (recvCell c i) 0 false : sProp 𝕄))
      = bigSep Finset.univ fun c : Dev nD => bigSep Finset.univ fun i => dutyTok ER (recvCell (tgt i c) i) 0 false := by
    rw [← bigSep_univ_prod (fun ci : Dev nD × Fin 16 => (dutyTok ER (recvCell ci.1 ci.2) 0 false : sProp 𝕄)),
      bigSep_univ_equiv turn (fun ci : Dev nD × Fin 16 => (dutyTok ER (recvCell ci.1 ci.2) 0 false : sProp 𝕄)), bigSep_univ_prod]
    rfl
  have hs : bigSep (Finset.univ.map scTok) (fun x => (dutyTok ER x.1 x.2.1 x.2.2 : sProp 𝕄))
      = iprop((bigSep Finset.univ fun c : Dev nD => bigSep Finset.univ fun i => dutyTok ER (sendCell c i) 0 false)
          ∗ bigSep Finset.univ fun c : Dev nD => bigSep Finset.univ fun i => dutyTok ER (recvCell (tgt i c) i) 0 false) := by
    rw [bigSep_map, bigSep_univ_prod, bigSep_congr (s := Finset.univ)
      (Φ := fun c : Dev nD => bigSep Finset.univ fun k => dutyTok ER (scTok (c, k)).1 (scTok (c, k)).2.1 (scTok (c, k)).2.2)
      (Ψ := fun c : Dev nD => iprop((bigSep Finset.univ fun i => dutyTok ER (sendCell c i) 0 false) ∗ bigSep Finset.univ fun i => dutyTok ER (recvCell c i) 0 false))
        fun c _ => (show _ = _ from cells_split fun sm => (dutyTok ER ((c : Thread nD τ), sm) 0 false : sProp 𝕄)), bigSep_sep', hr]
  unfold tokens dues
  rw [bigSep_union disjoint_tokens, hb, hs, bigSep_sep', bigSep_sep', bigSep_sep']
  rfl

/-! ## The launch credit -/

theorem barCell_inj {c d : Dev nD} : barCell c = barCell d ↔ c = d := ⟨fun h => congrArg (fun g : GSem nD τ sig => g.1.1) h, fun h => by rw [h]⟩
theorem recvCell_inj {c d : Dev nD} {i k : Fin 16} : recvCell c i = recvCell d k ↔ c = d ∧ i = k :=
  ⟨fun h => ⟨congrArg (fun g : GSem nD τ sig => g.1.1) h, by
    have h' := congrArg (fun g : GSem nD τ sig => kind g.2) h
    simp only [kind_recv] at h'
    exact Kind'.recv.inj h'⟩, fun h => by rw [h.1, h.2]⟩
theorem recv_ne_bar (c d : Dev nD) (i : Fin 16) : recvCell c i ≠ barCell d := fun h => dma_ne_reg (congrArg Prod.snd h)

theorem owed_list_bar (d c : Dev nD) (l : List (Fin 16)) : OL d l (barCell c) () = 0 := by
  by_contra h
  obtain ⟨i, -, e⟩ := OL_pos (Nat.pos_of_ne_zero h)
  exact recv_ne_bar _ _ _ e.symm

theorem owed_list_recv (d c : Dev nD) (i : Fin 16) (l : List (Fin 16)) : OL d l (recvCell c i) () = if d = tgt i c then l.count i * N else 0 := by
  induction l with
  | nil => rw [List.count_nil, Nat.zero_mul, ite_self]; rfl
  | cons k l ih =>
    rw [OL, Pi.add_apply, Finsupp.add_apply, ih, tallyAt_apply, List.count_cons]
    simp only [recvCell_inj, and_true]
    by_cases hk : k = i
    · subst hk
      by_cases hd : d = tgt k c
      · subst hd; simp only [tgt_tgt, and_self, if_true, beq_self_eq_true, Nat.add_mul, Nat.one_mul]
      · rw [if_neg hd, if_neg fun h => hd (by rw [h.1, tgt_tgt]), if_neg hd]
    · have hb : (k == i) = false := beq_eq_false_iff_ne.mpr hk
      have hn : ¬(c = tgt k d ∧ i = k) := fun h => hk h.2.symm
      rw [if_neg hn, hb]; simp only [Nat.add_zero, Bool.false_eq_true, if_false]

theorem count_all : ∀ i : Fin 16, all.count i = 1 := by decide

theorem owed_bar (d c : Dev nD) : O₀ d (barCell c) () = (if d = par false c then 1 else 0) + if d = par true c then 1 else 0 := by
  have h (b : Bool) : barCell c = barCell (par b d) ↔ d = par b c := by
    rw [barCell_inj]
    exact ⟨fun h => by rw [h, par_par], fun h => by rw [h, par_par]⟩
  unfold O₀ O₁
  rw [Pi.add_apply, Finsupp.add_apply, Pi.add_apply, Finsupp.add_apply, owed_list_bar, tallyAt_apply, tallyAt_apply, Nat.zero_add]
  simp only [h, and_true]

theorem owed_recv (d c : Dev nD) (i : Fin 16) : O₀ d (recvCell c i) () = if d = tgt i c then N else 0 := by
  unfold O₀ O₁
  rw [Pi.add_apply, Finsupp.add_apply, Pi.add_apply, Finsupp.add_apply, owed_list_recv, count_all, Nat.one_mul,
    tallyAt_ne_cell (recv_ne_bar _ _ _), tallyAt_ne_cell (recv_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (par false c) fun _ => 1, Finset.sum_ite_eq' Finset.univ (par true c) fun _ => 1,
    if_pos (Finset.mem_univ _), if_pos (Finset.mem_univ _)]

theorem launch_recv (c : Dev nD) (i : Fin 16) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (tgt i c) fun _ => N,
    if_pos (Finset.mem_univ _)]

/-- A device's receive semaphores, as locations. -/
def recvLoc : Fin 16 ↪ SemLoc sig := ⟨fun i => .dma (rS i), fun i k h => by
  have h' := congrArg kind h
  simp only [kind_recv] at h'
  exact Kind'.recv.inj h'⟩

theorem credits (c : Dev nD) :
    (Pipeline.launchCred O₀ c : sProp 𝕄) ⊢ iprop(cred (tallyAt (barCell c) () 2) ∗ bigSep Finset.univ fun i => cred (tallyAt (recvCell c i) () N)) := by
  unfold Pipeline.launchCred
  rw [bigSep_univ_at _ (SemLoc.reg barS), launch_bar]
  refine sep_mono_right (BIBase.Entails.trans (bigSep_subset (t := Finset.univ.map recvLoc) fun sm h => ?_) (Entails.of_eq ?_))
  · obtain ⟨i, -, rfl⟩ := Finset.mem_map.mp h
    exact Finset.mem_erase.mpr ⟨dma_ne_reg, Finset.mem_univ _⟩
  · rw [bigSep_map]
    exact bigSep_congr fun i _ => congrArg cred (launch_recv c i)

/-! ## What the launch deals -/

/-- The launch element: the staging cells' and the protocol's. -/
def u₀ : UU := (initOf (Pipeline.cells cfgs cellOf_inj) (Pipeline.launchToks cfgs cellOf_inj), launchOf barCells scCells tokens)

/-- The protocol's element, kept whole by device 0 until it is dealt. -/
def seed (c : Dev nD) : sProp 𝕄 := if c = 0 then BI.own (ER (launchOf barCells scCells tokens)) else iprop(emp)
theorem seed_all : bigSep Finset.univ (seed (F := F)) = BI.own (ER (launchOf barCells scCells tokens)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's state beside its buffers, before the kernel and after it. -/
def E (k : Fin 2) (c : Dev nD) : sProp 𝕄 :=
  if k = 0 then iprop((∃ κ, dealt m κ c) ∗ (∃ r, prngReg c r) ∗ ∃ W, owes (c : Thread nD τ) (O₀ c) W)
  else iprop(semVal (barCell c) 0 ∗ ∃ W, owes (c : Thread nD τ) (0 : CellTallies nD τ sig Unit) W)

/-- What a device keeps of the protocol, beside what every device may consult. -/
def share' (c : Dev nD) : sProp 𝕄 :=
  iprop(atPos ER (barCell c) 0 ∅ 0 ∗ (bigSep Finset.univ fun k => openTok ER ((c : Thread nD τ), osem k)) ∗ dues c)
/-- What the launch leaves with a device itself. -/
def own' (c : Dev nD) : sProp 𝕄 :=
  iprop((cred (tallyAt (barCell c) () 2) ∗ bigSep Finset.univ fun i => cred (tallyAt (recvCell c i) () N))
    ∗ owes (c : Thread nD τ) (O₀ c) ∅ ∗ ∃ r, prngReg c r)

theorem E_intro (κ : GSem nD τ sig → ℕ) (c : Dev nD) : iprop(records (sndF (ins m)) κ ∗ (share' c ∗ own' c)) ⊢ E m 0 c := by
  unfold share' own' E dealt dues
  rw [if_pos rfl]
  iintro ⟨#HR, ⟨Hat, Ho, ⟨Ht1, Ht0⟩, Hs, Hr⟩, ⟨Hcb, Hcr⟩, HO, Hp⟩
  isplitr [HO Hp]
  · iexists κ
    isplitr; · iexact HR
    isplitl [Hat]; · iexact Hat
    isplitl [Hcb]; · iexact Hcb
    isplitl [Ht1]; · iexact Ht1
    isplitl [Ht0]; · iexact Ht0
    isplitl [Hs]; · iexact Hs
    isplitl [Hr]; · iexact Hr
    isplitl [Hcr] <;> iassumption
  isplitl [Hp]; · iexact Hp
  iexists ∅; iexact HO

theorem own_intro (c : Dev nD) : iprop(unscopedSems0 c ∗ owes (c : Thread nD τ) (O₀ c) ∅ ∗ Pipeline.launchCred O₀ c ∗ prngReg c (ρ c) ∗ seed c)
    ⊢ (iprop(own' c ∗ (semVal (barCell c) 0 ∗ seed c)) : sProp 𝕄) := by
  rw [unscopedSems_eq]
  unfold own'
  iintro ⟨Hb, HO, Hc, Hp, HG⟩
  ihave Hc := (credits (F := F) c) $$ Hc
  isplitr [Hb HG]
  · isplitl [Hc]; · iexact Hc
    isplitl [HO]; · iexact HO
    iexists (ρ c); iexact Hp
  isplitl [Hb] <;> iassumption

theorem bars_map (Φ : GSem nD τ sig → sProp 𝕄) : bigSep barCells Φ = bigSep Finset.univ fun c : Dev nD => Φ (barCell c) := bigSep_map barEmb
theorem scs_map (Φ : GSem nD τ sig → sProp 𝕄) :
    bigSep scCells Φ = bigSep Finset.univ fun c : Dev nD => bigSep Finset.univ fun k => Φ ((c : Thread nD τ), osem k) := by
  rw [bigSep_map, bigSep_univ_prod]; rfl

theorem start :
    iprop((bigSep Finset.univ fun c : Dev nD => iprop(unscopedSems0 c ∗ owes (c : Thread nD τ) (O₀ c) ∅ ∗ Pipeline.launchCred O₀ c ∗ prngReg c (ρ c) ∗ seed c)) ∗ levAts L lv)
      ⊢ (|={Set.univ}=> bigSep Finset.univ (E m 0) : sProp 𝕄) := by
  iintro ⟨H, -⟩
  ihave H := (show (bigSep Finset.univ fun c : Dev nD => iprop(unscopedSems0 c ∗ owes (c : Thread nD τ) (O₀ c) ∅ ∗ Pipeline.launchCred O₀ c ∗ prngReg c (ρ c) ∗ seed c))
      ⊢ (bigSep Finset.univ fun c : Dev nD => iprop(own' c ∗ (semVal (barCell c) 0 ∗ seed c)) : sProp 𝕄) from bigSep_mono fun c _ => own_intro ρ c) $$ H
  ihave H := Smoke.bigSep_unpair $$ H; icases H with ⟨HB, H⟩
  ihave H := Smoke.bigSep_unpair $$ H; icases H with ⟨Hv, HG⟩
  ihave Hv := (Entails.of_eq (bars_map fun g => (semVal g 0 : sProp 𝕄)).symm) $$ Hv
  ihave HG := (Entails.of_eq (seed_all (F := F))) $$ HG
  imod (Rounds.fund_launch ER (rd (sndF (ins m))) disjoint_cells (fun g _ h => h) tokens) $$ [Hv HG] with ⟨%κ, -, #Hinv, #Hr, Hat, Hopen, Htok⟩
  · isplitl [Hv] <;> iassumption
  ihave Hat := (Entails.of_eq (bars_map fun g => (atPos ER g 0 ∅ 0 : sProp 𝕄))) $$ Hat
  ihave Hopen := (Entails.of_eq (scs_map fun g => (openTok ER g : sProp 𝕄))) $$ Hopen
  ihave Htok := (Entails.of_eq (tokens_dealt (F := F))) $$ Htok
  imodintro
  iapply (bigSep_with_persistent (R := records (sndF (ins m)) κ) (Φ := fun c => iprop(share' c ∗ own' c)) fun c _ => E_intro m κ c)
  isplitr
  · unfold records
    isplitr; · iexact Hinv
    iexact Hr
  iapply Smoke.bigSep_pair
  isplitr [HB]
  · unfold share'
    iapply Smoke.bigSep_pair; isplitl [Hat]; · iexact Hat
    iapply Smoke.bigSep_pair; isplitl [Hopen] <;> iassumption
  · iexact HB

/-! ## The run -/

theorem region_pre (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ (∃ κ, dealt m κ c) ∗ ∃ Wd, owes (c : Thread nD τ) (0 + O₀ c) Wd)
  rw [StableHlo.held_sub_split (c : Thread nD τ) (Pipeline.arrRefs_sub_ucRefs spec0 winFacts0.arr_unscoped), zero_add]
  unfold E
  rw [if_pos rfl]
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem region_post (c : Dev nD) : (region m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ semVal (barCell c) 0 ∗ ∃ Wd, owes (c : Thread nD τ) (0 : CellTallies nD τ sig Unit) Wd) ⊢ _
  rw [StableHlo.held_sub_split (c : Thread nD τ) (Pipeline.arrRefs_sub_ucRefs spec0 winFacts0.arr_unscoped)]
  unfold E
  rw [if_neg (by decide)]
  iintro ⟨Ha, -, ⟨Hr, -⟩, Hb, HO⟩
  isplitl [Ha Hr]; · isplitl [Ha] <;> iassumption
  isplitl [Hb] <;> iassumption

theorem unscoped_eq : ∀ sm : SemLoc sig, sm.isScoped .tc = false → sm = .reg barS := by decide

/-- What device `c` ends with in memory. -/
def Ends (m' : (ℓ : Loc nD τ sig) → Buf (Elt F) ℓ) (c : Dev nD) : Prop :=
  (m' ((c : Thread nD τ).loc main_arg0) = m ((c : Thread nD τ).loc main_arg0)
    ∧ m' ((c : Thread nD τ).loc main_arg1) = m ((c : Thread nD τ).loc main_arg1)
    ∧ m' ((c : Thread nD τ).loc main_arg2) = m ((c : Thread nD τ).loc main_arg2)
    ∧ m' ((c : Thread nD τ).loc main_arg3) = m ((c : Thread nD τ).loc main_arg3)
    ∧ m' ((c : Thread nD τ).loc main_arg4) = m ((c : Thread nD τ).loc main_arg4))
  ∧ m' ((c : Thread nD τ).loc main_v16) = outF (ins m) c

theorem V2_v16 (c : Dev nD) : V2 m (outs m) c (Proc.devRef .tc main_v16) = outF (ins m) c := by
  show Function.update (V1 m c) (Proc.devRef .tc main_v16) (outs m 2 main_v16 c) (Proc.devRef .tc main_v16) = _
  rw [Function.update_self, outs_v16]

theorem uc_mem (r : Ref sig .tc) (h : r ∈ ([main_arg0, main_arg1, main_arg2, main_arg3, main_arg4, main_v16] : List (Ref sig .tc))) :
    (Proc.devRef .tc r : DevRef τ sig) ∈ Pipeline.ucRefs τ sig :=
  Finset.mem_filter.mpr ⟨StableHlo.devRef_mem_tcRefs r, by revert r; decide⟩

theorem finish (c : Dev nD) (s' : Phys nD τ sig (Elt F)) :
    iprop((StableHlo.held (c : Thread nD τ) (Pipeline.ucRefs τ sig) (V2 m (outs m) c) ∗ semVal (barCell c) 0) ∗ SI s')
      ⊢ (|={Set.univ}=> iprop(⌜Ends m s'.mem.mem c ∧ s'.mem.sem (barCell c) = 0⌝ ∗ SI s') : sProp 𝕄) := by
  unfold StableHlo.held
  iintro ⟨⟨Hh, Hb⟩, HSI⟩
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  icombine HSI Hb gives %hb
  imodintro
  isplitr
  · ipureintro
    exact ⟨⟨⟨(h _ (uc_mem main_arg0 (by decide))).trans (V2_main_arg0 m (outs m) c), (h _ (uc_mem main_arg1 (by decide))).trans (V2_main_arg1 m (outs m) c),
      (h _ (uc_mem main_arg2 (by decide))).trans (V2_main_arg2 m (outs m) c), (h _ (uc_mem main_arg3 (by decide))).trans (V2_main_arg3 m (outs m) c),
      (h _ (uc_mem main_arg4 (by decide))).trans (V2_main_arg4 m (outs m) c)⟩, (h _ (uc_mem main_v16 (by decide))).trans (V2_v16 m c)⟩, by simpa using hb⟩
  iexact HSI

theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ seed c))
      = (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ seed c))
          : sProp 𝕄) := by
    rw [← bigSep_sep']
    exact bigSep_congr fun c _ => by rw [← Pipeline.unscopedBufs_held c (V0 m c)]
  rw [hsplit]
  iintro ⟨⟨Hh, Hr⟩, Hl⟩
  imod (start m ρ) $$ [Hr Hl] with HE
  · isplitl [Hr] <;> iassumption
  imodintro
  iapply Smoke.bigSep_pair
  isplitl [Hh] <;> iassumption

set_option backward.isDefEq.respectTransparency.types false in
/-- The run: from any memory with zero counters, every weakly fair execution of the program on the four devices
    terminates; every final state has the arguments unchanged, the result at `outF`, and every counter at zero. -/
theorem run_main : θ_run defs (onTc (τ := τ) (main (F := F))) ⟨m, fun _ => 0, ρ⟩
    (fun r => (∀ c : Dev nD, Ends m r.2.mem c) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Pipeline.Seg.run_eq_chain,
        show (segs m 𝒱₀ L lv (E m) () (pdats m) (region m) c).map Pipeline.Seg.prog = [
          StableHlo.seq (hostOps0 c), Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := seed) (u₀ := u₀)
    (hu₀ := by
      unfold u₀
      iintro Hu
      ihave H := (ownU_pair _ _) $$ Hu
      icases H with ⟨HP, HX⟩
      imodintro
      isplitl [HP]; · iexact HP
      rw [seed_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, region_pre m c, (region_post m c).trans (by
      unfold E
      rw [if_neg (by decide)]
      iintro ⟨Hh, Hb, HO⟩
      isplitl [Hh Hb]; · isplitl [Hh] <;> iassumption
      iexact HO)⟩)
    (hinit := launched m ρ)
    (QY := fun c s => Ends m s.mem c ∧ s.sem (barCell c) = 0)
    (hfin := finish m)
    (hQ := fun s h hs => ⟨fun c => (h c).1, sem_eq_zero hs fun c sm hsm => by
      obtain rfl := unscoped_eq sm hsm
      exact (h c).2⟩)

end Cert.KernelIdeal.Run

end
-- ==== Proof.Frames.lean ====
/- The frame claims: the kernel's two instances from the one run, the reference's from its generated run. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

section
open Cert.KernelIdeal Idealize.ShloMosaic.TcCoe

/-- The run, at any float values, read at the arguments and the counters. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (Run.run_main m ρ)

end

/-- The idealized kernel's frame. -/
theorem frame_kernelIdeal : Cert.quiescent_KernelIdeal := fun m ρ _ => frame_any (F := Ideal) m ρ

/-- The kernels' body tables of the two texts are one table, read at its one label. -/
theorem bodies_same : Cert.Kernel.defs₀ (F := Bits) = Cert.KernelIdeal.defs₀ (F := Bits) := by
  refine congrArg (Defs.onTc (nD := 4)) ?_
  funext l a
  obtain rfl : l = 0 := Subsingleton.elim _ _
  rfl

/-- So the two texts' whole tables are one. -/
theorem tables_same : Cert.Kernel.defs (F := Bits) = Cert.KernelIdeal.defs (F := Bits) :=
  congrArg (Pipeline.defs (Cert.KernelIdeal.pcfgs (F := Bits))) bodies_same

/-- The kernel's frame: its text is the idealized kernel's, so it is the same run at bit patterns. -/
theorem frame_kernel : Cert.quiescent_Kernel := fun m ρ _ => by
  rw [tables_same]
  exact frame_any (F := Bits) m ρ

/-- The reference's frame; it has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.HostValue.lean ====
/- What a device's operands are when the kernel starts: x whole, its columns of Wq, its four heads of the keys and of the
   values, and its rows of Wo. -/
module

public import proofs.«01_k».proof.Proof.Region
public import Idealize.ShloMosaic.Lib.PointwiseCore
public import Idealize.ShloMosaic.Lib.Pointwise.Reshape
public import Idealize.ShloMosaic.Lib.StableHlo.Run

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- The device's number times four, as the host computes it: its first head. -/
def headW (c : Dev nD) : BitVec 32 :=
  let v : IVec S_ 32 := muli (constantI S_ 32 4#32) (Host.remui (Host.divui (constantI S_ 32 (Dev.word c)) (constantI S_ 32 1#32)) (constantI S_ 32 4#32))
  (select (cmpi .slt v (constantI S_ 32 0#32)) (addi v (constantI S_ 32 16#32)) v : IVec S_ 32) (Shape.Idx.first h_S_)

theorem headW_toInt : ∀ c : Dev nD, (headW c).toInt = 4 * c.val := by decide

variable (m : (ℓ : Loc nD τ sig) → Buf (Elt F) ℓ)

/-- Four heads of an array of keys or values, side by side. -/
def headsAt (st : Fin 4 → ℤ) (k : Vec F S2x128x16x64 .bf16) : Vec F S2x128x256 .bf16 :=
  shapeCast S2x128x256 (Host.dynamicSlice S2x128x4x64 k st sliceFits_S2x128x16x64_S2x128x4x64) shapeCasts_S2x128x4x64_S2x128x256

/-- A device's. -/
def headsV (c : Dev nD) (k : Vec F S2x128x16x64 .bf16) : Vec F S2x128x256 .bf16 :=
  headsAt (fun a => (![0#32, 0#32, headW c, 0#32] a : BitVec 32).toInt) k

theorem heads_apply (c : Dev nD) (k : Vec F S2x128x16x64 .bf16) (b : Fin 2) (j : Fin 128) (z : Fin 256) :
    headsV c k (ix3 b j z) = k (ix4 b j ⟨4 * c.val + z.val / 64, by have h : c.val < 4 := c.isLt; omega⟩ ⟨z.val % 64, by omega⟩) := by
  have hc : c.val < 4 := c.isLt
  have h := headW_toInt c
  pointwise [headsV, headsAt]
  refine congrArg k (funext fun a => Fin.ext ?_)
  fin_cases a
  · show Host.clampedStart _ _ _ _ 0 + b.val = b.val
    rw [Host.clampedStart_of_le _ _ _ 0 (by rfl) (by decide)]; omega
  · show Host.clampedStart _ _ _ _ 1 + j.val = j.val
    rw [Host.clampedStart_of_le _ _ _ 0 (by rfl) (by decide)]; omega
  · show Host.clampedStart _ _ _ _ 2 + z.val / 64 = 4 * c.val + z.val / 64
    rw [Host.clampedStart_of_le _ _ _ (4 * c.val) (by show (headW c).toInt = _; omega) (by show 4 * c.val + 4 ≤ 16; omega)]
  · show Host.clampedStart _ _ _ _ 3 + z.val % 64 = z.val % 64
    rw [Host.clampedStart_of_le _ _ _ 0 (by rfl) (by decide)]; omega

theorem v10_eq (c : Dev nD) : V1 m c main_v10 = headsV c (m ((c : Thread nD τ).loc main_arg2)) := by
  show StableHlo.after (hostOps0 c) (V0 m c) main_v10 = _
  simp only [hostOps0]
  after_results_simp
  exact congrArg (fun st => headsAt st (m ((c : Thread nD τ).loc main_arg2))) (funext fun k => congrArg BitVec.toInt (by fin_cases k <;> (after_results_simp; rfl)))

theorem v15_eq (c : Dev nD) : V1 m c main_v15 = headsV c (m ((c : Thread nD τ).loc main_arg3)) := by
  show StableHlo.after (hostOps0 c) (V0 m c) main_v15 = _
  simp only [hostOps0]
  after_results_simp
  exact congrArg (fun st => headsAt st (m ((c : Thread nD τ).loc main_arg3))) (funext fun k => congrArg BitVec.toInt (by fin_cases k <;> (after_results_simp; rfl)))

/-! The operands, by the arguments. -/

theorem ins_x (c : Dev nD) : (ins m c).x = m ((c : Thread nD τ).loc main_arg0) := (read_arg0 c _).trans (V1_of m c main_arg0 (by decide))
theorem ins_wq (c : Dev nD) : (ins m c).wq = m ((c : Thread nD τ).loc main_arg1) := (read_arg1 c _).trans (V1_of m c main_arg1 (by decide))
theorem ins_k (c : Dev nD) : (ins m c).k = headsV c (m ((c : Thread nD τ).loc main_arg2)) := (read_v10 c _).trans (v10_eq m c)
theorem ins_v (c : Dev nD) : (ins m c).v = headsV c (m ((c : Thread nD τ).loc main_arg3)) := (read_v15 c _).trans (v15_eq m c)
theorem ins_wo (c : Dev nD) : (ins m c).wo = m ((c : Thread nD τ).loc main_arg4) := (read_arg4 c _).trans (V1_of m c main_arg4 (by decide))

end Cert.KernelIdeal.Run

end
-- ==== Proof.Softmax.lean ====
/- Softmax over the reals: for finite scores the weights are the same whether or not the row's largest score is taken off
   first. And what is finite stays finite under sums and products. -/
module

public import Idealize.ShloMosaic.Lib.Pointwise
public import Idealize.ShloMosaic.Lib.IdealHost

@[expose] public section

noncomputable section

namespace Cert.Softmax

open Idealize.ShloMosaic

/-- A finite value. -/
def Fin' (a : EReal) : Prop := ∃ r : ℝ, a = (r : EReal)

theorem fin_mul {a b : EReal} : Fin' a → Fin' b → Fin' (a * b) := fun ⟨r, h⟩ ⟨t, h'⟩ => ⟨r * t, by rw [h, h', EReal.coe_mul]⟩

/-- The reals in the extended reals, as a map of sums. -/
def coeHom : ℝ →+ EReal := ⟨⟨fun r => (r : EReal), rfl⟩, EReal.coe_add⟩

theorem coe_sum {ι : Type} (s : Finset ι) (g : ι → ℝ) : ∑ i ∈ s, ((g i : ℝ) : EReal) = ((∑ i ∈ s, g i : ℝ) : EReal) := (map_sum coeHom g s).symm

theorem fin_sum {ι : Type} (s : Finset ι) (f : ι → EReal) (h : ∀ i, Fin' (f i)) : Fin' (∑ i ∈ s, f i) := by
  choose g hg using h
  refine ⟨∑ i ∈ s, g i, ?_⟩
  rw [Finset.sum_congr rfl fun i _ => hg i]
  exact coe_sum s g

/-- A value whose magnitude is below infinity is finite. -/
theorem fin_of_abs_lt {a : EReal} (h : max a (-a) < ⊤) : Fin' a := by
  induction a with
  | bot => simp at h
  | top => simp at h
  | coe r => exact ⟨r, rfl⟩

/-- The largest of finitely many finite values, from −∞, is finite. -/
theorem fin_max {n : ℕ} [NeZero n] (f : Fin n → EReal) (h : ∀ i, Fin' (f i)) : Fin' (Finset.univ.fold max ⊥ f) := by
  have hb : ∀ s : Finset (Fin n), s.fold max ⊥ f = ⊥ ∨ ∃ i, s.fold max ⊥ f = f i := by
    intro s
    induction s using Finset.induction_on with
    | empty => exact .inl Finset.fold_empty
    | insert a s ha ih =>
      rw [Finset.fold_insert ha]
      rcases max_choice (f a) (s.fold max ⊥ f) with e | e
      · exact .inr ⟨a, e⟩
      · rw [e]; exact ih
  rcases hb Finset.univ with e | ⟨i, e⟩
  · have h0 : f 0 ≤ Finset.univ.fold max ⊥ f := (Finset.le_fold_max _).mpr (.inr ⟨0, Finset.mem_univ _, le_rfl⟩)
    obtain ⟨r, hr⟩ := h 0
    rw [e, hr] at h0
    exact absurd (le_bot_iff.mp h0) (EReal.coe_ne_bot r)
  · rw [e]; exact h i

/-- The weights as the kernel makes them: no score is taken off, and the row's sum is inverted. -/
def plainW {n : ℕ} (s : Fin n → EReal) (j : Fin n) : EReal := Ideal.exp (s j) * Ideal.div 1 (∑ k, Ideal.exp (s k))

/-- The weights with the row's largest score taken off. -/
def shiftW {n : ℕ} (s : Fin n → EReal) (j : Fin n) : EReal :=
  Ideal.div (Ideal.exp (s j - Finset.univ.fold max ⊥ s)) (∑ k, Ideal.exp (s k - Finset.univ.fold max ⊥ s))

theorem exp_coe (r : ℝ) : Ideal.exp (r : EReal) = ((Real.exp r : ℝ) : EReal) := rfl

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem plain_eq_shift {n : ℕ} [NeZero n] (s : Fin n → EReal) (h : ∀ i, Fin' (s i)) (j : Fin n) : plainW s j = shiftW s j := by
  obtain ⟨M, hM⟩ := fin_max s h
  unfold plainW shiftW
  rw [hM]
  choose g hg using h
  have pos : 0 < ∑ k, Real.exp (g k) := Finset.sum_pos (fun i _ => Real.exp_pos _) ⟨j, Finset.mem_univ j⟩
  have pos' : 0 < ∑ k, Real.exp (g k - M) := Finset.sum_pos (fun i _ => Real.exp_pos _) ⟨j, Finset.mem_univ j⟩
  simp only [hg, ← EReal.coe_sub, exp_coe, coe_sum]
  rw [show (1 : EReal) = ((1 : ℝ) : EReal) from rfl, div_coe _ _ pos.ne', div_coe _ _ pos'.ne', ← EReal.coe_mul]
  refine congrArg _ ?_
  simp only [Real.exp_sub, ← Finset.sum_div]
  field_simp

theorem eighth : Fin' (Ideal.ofBits .f32 0x3E000000#32) := by
  refine ⟨1 / 8, ?_⟩
  simp [Ideal.ofBits, Ideal.ieee, -EReal.coe_mul]; norm_num

theorem lowest : Ideal.ofBits .f32 0xFF800000#32 = ⊥ := by
  simp [Ideal.ofBits, Ideal.ieee]

theorem infinite : Ideal.ofBits .f32 0x7F800000#32 = ⊤ := by
  simp [Ideal.ofBits, Ideal.ieee]

end Cert.Softmax

end
-- ==== Proof.KernelValue.lean ====
/- What the kernel's buffers hold over the reals: a device's partial product at an index, and the result as the sum of the
   four devices' partial products. -/
module

public import proofs.«01_k».proof.Proof.Values
public import proofs.«01_k».proof.Proof.Softmax
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

theorem q_apply (wq : Vec Ideal S512x256 .bf16) (x : Vec Ideal S1x128x512 .bf16) (i : Fin 128) (d : Fin 256) :
    qPay wq x (ix2 i d) = ∑ e : Fin 512, x (ix3 0 i e) * wq (ix2 e d) := by
  pointwise [qPay]

/-- One head's output: its softmax-weighted values. -/
theorem head_apply (o : ℕ) (ho : S128x256.Slices ![0, o] S128x64) (ho' : o ≤ 192) (q : FVec Ideal S128x256 .f32) (k v : Vec Ideal S1x128x64 .bf16) (i : Fin 128) (d : Fin 64) :
    headP o ho q k v (ix2 i d) = ∑ j : Fin 128, Softmax.plainW (fun j => (∑ a : Fin 64, q (ix2 i ⟨o + a.val, by omega⟩) * k (ix3 0 j a)) * Ideal.ofBits .f32 0x3E000000#32) j * v (ix3 0 j d) := by
  pointwise [headP]
  rfl

/-- A value taken from four blocks of 64, by the block and the place in it. -/
theorem pick (f : Fin 4 → Fin 64 → EReal) (z : Fin 256) :
    (if h : z.val < 64 then f 0 ⟨z.val, h⟩ else if h' : z.val - 64 < 64 then f 1 ⟨z.val - 64, h'⟩
      else if h'' : z.val - 64 - 64 < 64 then f 2 ⟨z.val - 64 - 64, h''⟩ else f 3 ⟨z.val - 64 - 64 - 64, by omega⟩)
      = f ⟨z.val / 64, by omega⟩ ⟨z.val % 64, by omega⟩ := by
  split_ifs
  all_goals exact congrArg₂ f (Fin.ext (by simp; omega)) (Fin.ext (by simp; omega))

theorem slices_at : ∀ h : Fin 4, S128x256.Slices ![0, 64 * h.val] S128x64 := by decide

/-- The score of a row and a key in a device's head `h`. -/
def scoreOf (x : FVec Ideal S2x128x512 .bf16) (wq : FVec Ideal S512x256 .bf16) (k : FVec Ideal S2x128x256 .bf16) (b : Fin 2) (h : Fin 4) (i j : Fin 128) : EReal :=
  (∑ a : Fin 64, (∑ e : Fin 512, x (ix3 b i e) * wq (ix2 e ⟨64 * h.val + a.val, by omega⟩)) * k (ix3 b j ⟨64 * h.val + a.val, by omega⟩)) * Ideal.ofBits .f32 0x3E000000#32

theorem kV_apply (I : Ins Ideal) (b : Fin 2) (h : Fin 4) (j : Fin 128) (a : Fin 64) : kV I b h (ix3 0 j a) = I.k (ix3 b j ⟨64 * h.val + a.val, by omega⟩) := by
  refine congrArg I.k (funext fun t => Fin.ext ?_)
  fin_cases t
  · show b.val + 1 * 0 = b.val; omega
  · show 0 + 1 * j.val = j.val; omega
  · show 64 * h.val + 1 * a.val = 64 * h.val + a.val; omega

theorem vV_apply (I : Ins Ideal) (b : Fin 2) (h : Fin 4) (j : Fin 128) (a : Fin 64) : vV I b h (ix3 0 j a) = I.v (ix3 b j ⟨64 * h.val + a.val, by omega⟩) := by
  refine congrArg I.v (funext fun t => Fin.ext ?_)
  fin_cases t
  · show b.val + 1 * 0 = b.val; omega
  · show 0 + 1 * j.val = j.val; omega
  · show 64 * h.val + 1 * a.val = 64 * h.val + a.val; omega

theorem xV_apply (I : Ins Ideal) (b : Fin 2) (i : Fin 128) (e : Fin 512) : xV I b (ix3 0 i e) = I.x (ix3 b i e) := by
  refine congrArg I.x (funext fun t => Fin.ext ?_)
  fin_cases t
  · show b.val + 1 * 0 = b.val; omega
  · show 0 + 1 * i.val = i.val; omega
  · show 0 + 1 * e.val = e.val; omega

theorem wqV_eq (I : Ins Ideal) : wqV I = I.wq := Memref.read_access_unit_zero (Elt Ideal) cc0_stg1_0 (by decide) _ I.wq
theorem woV_eq (I : Ins Ideal) : woV I = I.wo := Memref.read_access_unit_zero (Elt Ideal) cc0_stg4_0 (by decide) _ I.wo

/-- A device's partial product: its heads' softmax-weighted values against its rows of Wo. -/
theorem pb_apply (I : Ins Ideal) (b : Fin 2) (i : Fin 128) (e : Fin 512) :
    pbF I (ix3 b i e) = ∑ z : Fin 256, (∑ j : Fin 128, Softmax.plainW (scoreOf I.x I.wq I.k b ⟨z.val / 64, by omega⟩ i) j * I.v (ix3 b j z)) * I.wo (ix2 z e) := by
  have r : pbF I (ix3 b i e) = ∑ z : Fin 256, headP (64 * (z.val / 64)) (slices_at ⟨z.val / 64, by omega⟩) (qPay (wqV I) (xV I b)) (kV I b ⟨z.val / 64, by omega⟩) (vV I b ⟨z.val / 64, by omega⟩)
      (ix2 i ⟨z.val % 64, by omega⟩) * woV I (ix2 z e) := by
    show pbV I b (ix2 i e) = _
    pointwise [pbV, pbPay]
    refine Finset.sum_congr rfl fun z _ => congrArg (· * woV I (ix2 z e)) ?_
    exact pick (fun h d => headP (64 * h.val) (slices_at h) (qPay (wqV I) (xV I b)) (kV I b h) (vV I b h) (ix2 i d)) z
  rw [r]
  refine Finset.sum_congr rfl fun z _ => ?_
  rw [head_apply _ _ (by omega), woV_eq]
  refine congrArg (· * I.wo (ix2 z e)) (Finset.sum_congr rfl fun j _ => ?_)
  rw [vV_apply]
  refine congrArg₂ (fun s v => Softmax.plainW s j * v) (funext fun j => ?_) (congrArg (fun w => I.v (ix3 b j w)) (Fin.ext (by show 64 * (z.val / 64) + z.val % 64 = z.val; omega)))
  unfold scoreOf
  simp only [q_apply, kV_apply, xV_apply, wqV_eq]

/-- The partners of the two stages and the device itself and the partner's partner are the four devices. -/
theorem sum_partners (f : Dev nD → EReal) (s : Bool) (c : Dev nD) :
    (f c + f (par s c)) + (f (par (!s) c) + f (par s (par (!s) c))) = ∑ d : Fin 4, f d := by
  have h : ∀ (s : Bool) (c : Fin 4), (c ::ₘ par s c ::ₘ par (!s) c ::ₘ par s (par (!s) c) ::ₘ 0 : Multiset (Fin 4)) = Finset.univ.val := by decide
  show _ = (Finset.univ.val.map f).sum
  rw [← h s c]
  simp only [Multiset.map_cons, Multiset.sum_cons, Multiset.map_zero, Multiset.sum_zero, add_zero, add_assoc]

/-- The second stage's partner is the one that the first did not take. -/
theorem side_other (y : S2x128x512.Idx) : side (slot (at4 1 y)) = !side (slot (at4 0 y)) := by
  have h : ∀ j : Fin 8, side ⟨8 + j.val, by omega⟩ = !side ⟨j.val, by omega⟩ := by decide
  have e1 : slot (at4 1 y) = ⟨8 + (chunk y).val, by omega⟩ := Fin.ext ((slot_at4 1 y).trans rfl)
  have e0 : slot (at4 0 y) = ⟨(chunk y).val, by omega⟩ := Fin.ext ((slot_at4 0 y).trans (Nat.zero_add _))
  rw [e1, e0]; exact h _

/-- The result: the four devices' partial products added. -/
theorem out_apply (I : Dev nD → Ins Ideal) (c : Dev nD) (y : S2x128x512.Idx) : outF I c y = ∑ d : Fin 4, pbF (I d) y := by
  rw [← sum_partners (fun d => pbF (I d) y) (side (slot (at4 0 y))) c, ← side_other y]
  pointwise [outF, acc1, rcv1, S1, rcv0, S0]

end Cert.KernelIdeal.Run

end
-- ==== Proof.RefValue.lean ====
/- The reference's result, read at an index: over the reals it is a sum over the heads' columns of softmax-weighted values. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Plain

open Cert.ReferenceIdeal Cert.ReferenceIdeal.Gen
open Idealize.ShloMosaic Idealize.ShloMosaic.TcCoe

/-- Which pairs of a row and a key are kept. -/
def maskV : Vec Ideal S128x128 .i1 :=
  ori (cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 128#32))) (ori (broadcastInDim S128x128 ![0, 1] bcast_S1x128_S128x128_0_1 (cmpi .slt (broadcastInDim S1x128 ![1] bcast_S128_S1x128_1 (iotaInDim S128 32 0)) (broadcastInDim S1x128 ![] bcast_S_S1x128 (constantI S_ 32 32#32)))) (broadcastInDim S128x128 ![0, 1] bcast_S128x1_S128x128_0_1 (cmpi .slt (broadcastInDim S128x1 ![0] bcast_S128_S128x1_0 (iotaInDim S128 32 0)) (broadcastInDim S128x1 ![] bcast_S_S128x1 (constantI S_ 32 32#32)))))

/-- The scores before the mask. -/
def rawV (x : FVec Ideal S2x128x512 .bf16) (wq : FVec Ideal S512x1024 .bf16) (k : FVec Ideal S2x128x16x64 .bf16) : FVec Ideal S2x16x128x128 .f32 :=
  mulf (extf .f32 (truncf .bf16 (Host.dotGeneral dot_S2x128x16x64_S2x128x16x64_S2x16x128x128_3_3_1_1_02_02 none (shapeCast _ (truncf .bf16 (Host.dotGeneral dot_S2x128x512_S512x1024_S2x128x1024_2_0_01_1_n_n none x wq) bitsLt_bf16_f32) shapeCasts_S2x128x1024_S2x128x16x64) k) bitsLt_bf16_f32) bitsLt_bf16_f32) (broadcastInDim S2x16x128x128 ![] bcast_S_S2x16x128x128 (constant S_ .f32 0x3E000000#32))

/-- The masked scores. -/
def maskedV (M : Vec Ideal S128x128 .i1) (s : FVec Ideal S2x16x128x128 .f32) : FVec Ideal S2x16x128x128 .f32 :=
  select (broadcastInDim S2x16x128x128 ![0, 1, 2, 3] bcast_S1x1x128x128_S2x16x128x128_0_1_2_3 (broadcastInDim S1x1x128x128 ![2, 3] bcast_S128x128_S1x1x128x128_2_3 M)) s (broadcastInDim S2x16x128x128 ![] bcast_S_S2x16x128x128 (id (constant S_ .f32 0xCE6E6B28#32)))

/-- The exponentials of the scores less the row's largest. -/
def expV (s : FVec Ideal S2x16x128x128 .f32) : FVec Ideal S2x16x128x128 .f32 :=
  Host.exp (subf s (broadcastInDim S2x16x128x128 ![0, 1, 2, 3] bcast_S2x16x128x1_S2x16x128x128_0_1_2_3 (broadcastInDim S2x16x128x1 ![0, 1, 2] bcast_S2x16x128_S2x16x128x1_0_1_2 (Host.reduce FloatOps.maximumf s (constant S_ .f32 0xFF800000#32) reducesTo_S2x16x128x128_S2x16x128_d3 h_S_))))

/-- Which rows keep a key. -/
def rowsV (M : Vec Ideal S128x128 .i1) : Vec Ideal S1x1x128x1 .i1 :=
  broadcastInDim S1x1x128x1 ![2] bcast_S128_S1x1x128x1_2 (Host.reduce IntOp.ori M (constantI S_ 1 0#1) reducesTo_S128x128_S128_d1 h_S_)

/-- The weights. -/
def wtV (R : Vec Ideal S1x1x128x1 .i1) (w : FVec Ideal S2x16x128x128 .f32) : FVec Ideal S2x16x128x128 .f32 :=
  select (broadcastInDim S2x16x128x128 ![0, 1, 2, 3] bcast_S1x1x128x1_S2x16x128x128_0_1_2_3 R)
    (Host.divf w (broadcastInDim S2x16x128x128 ![0, 1, 2, 3] bcast_S2x16x128x1_S2x16x128x128_0_1_2_3
      (select (broadcastInDim S2x16x128x1 ![0, 1, 2, 3] bcast_S1x1x128x1_S2x16x128x1_0_1_2_3 R)
        (broadcastInDim S2x16x128x1 ![0, 1, 2] bcast_S2x16x128_S2x16x128x1_0_1_2 (Host.reduceAdd w (constant S_ .f32 0x00000000#32) reducesTo_S2x16x128x128_S2x16x128_d3 h_S_))
        (broadcastInDim S2x16x128x1 ![] bcast_S_S2x16x128x1 (id (constant S_ .f32 0x3F800000#32))))))
    (broadcastInDim S2x16x128x128 ![] bcast_S_S2x16x128x128 (id (constant S_ .f32 0x00000000#32)))

/-- The weighted values, a row's heads side by side. -/
def ctxV (v : FVec Ideal S2x128x16x64 .bf16) (w : FVec Ideal S2x16x128x128 .f32) : FVec Ideal S2x128x1024 .f32 :=
  shapeCast _ (transpose S2x128x16x64 [0, 3, 1, 2] (Host.dotGeneral dot_S2x128x16x64_S2x16x128x128_S2x16x64x128_1_3_3_2_02_01 none (extf .f32 v bitsLt_bf16_f32) w) transposes_S2x16x64x128_S2x128x16x64_0_3_1_2) shapeCasts_S2x128x16x64_S2x128x1024

/-- The projection. -/
def outV (z : FVec Ideal S2x128x1024 .f32) (wo : FVec Ideal S1024x512 .bf16) : FVec Ideal S2x128x512 .bf16 :=
  truncf .bf16 (Host.dotGeneral dot_S2x128x1024_S1024x512_S2x128x512_2_0_01_1_n_n none z (extf .f32 wo bitsLt_bf16_f32)) bitsLt_bf16_f32

theorem result_named (m : (ℓ : Loc nD τ sig) → Buf (Elt Ideal) ℓ) (c : Dev nD) : Value.res_main_v48 m c =
    outV (ctxV (m ((c.tc : Thread nD τ).loc main_arg3)) (wtV (rowsV maskV) (expV (maskedV maskV
      (rawV (m ((c.tc : Thread nD τ).loc main_arg0)) (m ((c.tc : Thread nD τ).loc main_arg1)) (m ((c.tc : Thread nD τ).loc main_arg2))))))) (m ((c.tc : Thread nD τ).loc main_arg4)) := rfl

theorem small (i : ℕ) (h : i < 128) : (BitVec.ofNat 32 i).toInt = i := by
  rw [BitVec.toInt_eq_toNat_of_lt (by rw [BitVec.toNat_ofNat]; omega), BitVec.toNat_ofNat]
  omega

/-- Rows and keys are at most 127 apart, so every pair is kept. -/
theorem near (i j : ℕ) (hi : i < 128) (hj : j < 128) :
    IntOp.cmpi CmpIPredicate.sle (IntOp.absi (IntOp.subi (BitVec.ofNat 32 i) (BitVec.ofNat 32 j))) 128#32 = 1#1 := by
  have e : (BitVec.ofNat 32 i - BitVec.ofNat 32 j).toInt = (i : ℤ) - j := by
    rw [BitVec.toInt_sub, small i hi, small j hj]
    simp only [Int.bmod_def]
    omega
  show BitVec.ofBool (BitVec.sle (if (BitVec.ofNat 32 i - BitVec.ofNat 32 j).msb then -(BitVec.ofNat 32 i - BitVec.ofNat 32 j) else _) 128#32) = 1#1
  have k : (128#32 : BitVec 32).toInt = 128 := by decide
  rw [show (1#1 : BitVec 1) = BitVec.ofBool true from rfl]
  refine congrArg _ (BitVec.sle_iff_toInt_le.mpr ?_)
  rw [k]
  split
  · rw [BitVec.toInt_neg, e]; simp only [Int.bmod_def]; omega
  · show (BitVec.ofNat 32 i - BitVec.ofNat 32 j).toInt ≤ 128
    rw [e]; omega

theorem one_ori : ∀ a : BitVec 1, IntOp.ori 1#1 a = 1#1 := by decide

theorem mask_all : maskV = fun _ => 1#1 := by
  funext i
  have hi : (i 0).val < 128 := (i 0).isLt
  have hj : (i 1).val < 128 := (i 1).isLt
  pointwise [maskV]
  rw [near _ _ hi hj]
  exact one_ori _

theorem rows_all : rowsV (fun _ => 1#1) = fun _ => 1#1 := by
  funext i
  pointwise [rowsV]
  rw [← Finset.insert_erase (Finset.mem_univ (0 : Fin 128)), Finset.fold_insert (Finset.notMem_erase _ _)]
  exact one_ori _

theorem masked_all (s : FVec Ideal S2x16x128x128 .f32) : maskedV (fun _ => 1#1) s = s := by
  funext i
  pointwise [maskedV]

/-- A score. -/
theorem raw_apply (x : FVec Ideal S2x128x512 .bf16) (wq : FVec Ideal S512x1024 .bf16) (k : FVec Ideal S2x128x16x64 .bf16) (b : Fin 2) (h : Fin 16) (i j : Fin 128) :
    rawV x wq k (ix4 b h i j) = (∑ d : Fin 64, (∑ e : Fin 512, x (ix3 b i e) * wq (ix2 e ⟨h.val * 64 + d.val, by omega⟩)) * k (ix4 b j h d)) * Ideal.ofBits FTy.f32 0x3E000000#32 := by
  pointwise [rawV]

/-- A weight is the softmax of its row's scores. -/
theorem weight_apply (s : FVec Ideal S2x16x128x128 .f32) (b : Fin 2) (h : Fin 16) (i j : Fin 128) :
    wtV (fun _ => 1#1) (expV s) (ix4 b h i j) = Softmax.shiftW (fun j => s (ix4 b h i j)) j := by
  pointwise [wtV, expV]
  rw [Softmax.lowest]
  rfl

theorem ctx_apply (v : FVec Ideal S2x128x16x64 .bf16) (w : FVec Ideal S2x16x128x128 .f32) (b : Fin 2) (i : Fin 128) (z : Fin 1024) :
    ctxV v w (ix3 b i z) = ∑ j : Fin 128, v (ix4 b j ⟨z.val / 64, by omega⟩ ⟨z.val % 64, by omega⟩) * w (ix4 b ⟨z.val / 64, by omega⟩ i j) := by
  pointwise [ctxV]

theorem out_apply (z : FVec Ideal S2x128x1024 .f32) (wo : FVec Ideal S1024x512 .bf16) (b : Fin 2) (i : Fin 128) (e : Fin 512) :
    outV z wo (ix3 b i e) = ∑ k : Fin 1024, z (ix3 b i k) * wo (ix2 k e) := by
  pointwise [outV]

/-- The result at an index: the attention of every head, projected. -/
theorem result_apply (x : FVec Ideal S2x128x512 .bf16) (wq : FVec Ideal S512x1024 .bf16) (k v : FVec Ideal S2x128x16x64 .bf16) (wo : FVec Ideal S1024x512 .bf16)
    (b : Fin 2) (i : Fin 128) (e : Fin 512) :
    outV (ctxV v (wtV (rowsV maskV) (expV (maskedV maskV (rawV x wq k))))) wo (ix3 b i e) =
      ∑ z : Fin 1024, (∑ j : Fin 128, v (ix4 b j ⟨z.val / 64, by omega⟩ ⟨z.val % 64, by omega⟩)
        * Softmax.shiftW (fun j => rawV x wq k (ix4 b ⟨z.val / 64, by omega⟩ i j)) j) * wo (ix2 z e) := by
  rw [mask_all, rows_all, masked_all, out_apply]
  refine Finset.sum_congr rfl fun z _ => ?_
  rw [ctx_apply]
  simp only [weight_apply]

end Cert.ReferenceIdeal.Plain

end
-- ==== Proof.Algebraic.lean ====
/- The value claim: over the reals every device's result is the reference's. -/
module

public import proofs.«01_k».proof.Proof.Frames
public import proofs.«01_k».proof.Proof.HostValue
public import proofs.«01_k».proof.Proof.KernelValue
public import proofs.«01_k».proof.Proof.RefValue
public import proofs.«01_k».proof.Proof.Gen.Pre_scores_finite_KernelIdeal
public import Idealize.ShloMosaic.Lib.ReduceAll

@[expose] public section

set_option maxRecDepth 16384

noncomputable section

namespace Cert.Proof

open Idealize.ShloMosaic Idealize.SL.Sem
open Cert.KernelIdeal.Run Cert.Softmax

/-! ## The precondition -/

section Pre
open Cert.Pre_scores_finite_KernelIdeal

/-- One array's part of the precondition, read at an element. -/
theorem fin_of_word (a : EReal) (h : Ideal.cmp .olt (max a (-a)) (Ideal.ofBits .f32 0x7F800000#32) = 1#1) : Fin' a := by
  rw [infinite] at h
  refine fin_of_abs_lt ?_
  by_contra hn
  simp [Ideal.cmp, hn] at h

theorem finite_of_pre (x : FVec Ideal S2x128x512 .bf16) (wq : FVec Ideal S512x256 .bf16) (k v : FVec Ideal S2x128x16x64 .bf16) (wo : FVec Ideal S256x512 .bf16)
    (h : fn (F := Ideal) x wq k v wo = fun _ => 1#1) : (∀ i, Fin' (x i)) ∧ (∀ i, Fin' (wq i)) ∧ ∀ i, Fin' (k i) := by
  have h0 := congrFun h (Shape.Idx.first Gen.h_S_)
  simp only [fn] at h0
  obtain ⟨h1, hk⟩ := IntOp.andi_eq_one.1 h0
  obtain ⟨hx, hw⟩ := IntOp.andi_eq_one.1 h1
  haveI : Subsingleton S_.Idx := ⟨fun _ _ => funext fun a => a.elim0⟩
  exact ⟨fun i => fin_of_word _ (Host.reduce_andi_all _ _ _ _ _ hx i), fun i => fin_of_word _ (Host.reduce_andi_all _ _ _ _ _ hw i),
    fun i => fin_of_word _ (Host.reduce_andi_all _ _ _ _ _ hk i)⟩

end Pre

/-! ## One device's share -/

section Share
open Cert.KernelIdeal

variable (X : FVec Ideal S2x128x512 .bf16) (Wq : FVec Ideal ⟨2, ![512, 1024]⟩ .bf16) (K V : FVec Ideal S2x128x16x64 .bf16) (Wo : FVec Ideal ⟨2, ![1024, 512]⟩ .bf16)

/-- A device's columns of Wq, by those of the whole. -/
theorem block_wq (d : Fin 4) (e : Fin 512) (a : Fin 256) :
    Layout.block ⟨2, ![512, 256]⟩ ⟨2, ![512, 1024]⟩ 1 4 d Wq (by decide) (ix2 e a) = Wq (ix2 e ⟨d.val * 256 + a.val, by omega⟩) := by
  refine congrArg Wq (funext fun t => Fin.ext ?_)
  fin_cases t <;> rfl

/-- A device's rows of Wo. -/
theorem block_wo (d : Fin 4) (a : Fin 256) (e : Fin 512) :
    Layout.block ⟨2, ![256, 512]⟩ ⟨2, ![1024, 512]⟩ 0 4 d Wo (by decide) (ix2 a e) = Wo (ix2 ⟨d.val * 256 + a.val, by omega⟩ e) := by
  refine congrArg Wo (funext fun t => Fin.ext ?_)
  fin_cases t <;> rfl

/-- A score of the device's head `z / 64` is the whole's in the head that this is there. -/
theorem score_eq (d : Fin 4) (b : Fin 2) (i j : Fin 128) (z : Fin 256) :
    scoreOf X (Layout.block ⟨2, ![512, 256]⟩ ⟨2, ![512, 1024]⟩ 1 4 d Wq (by decide)) (headsV (F := Ideal) d K) b ⟨z.val / 64, by omega⟩ i j
      = Cert.ReferenceIdeal.Plain.rawV X Wq K (ix4 b ⟨(d.val * 256 + z.val) / 64, by omega⟩ i j) := by
  rw [Cert.ReferenceIdeal.Plain.raw_apply]
  unfold scoreOf
  refine congrArg (· * Ideal.ofBits .f32 0x3E000000#32) (Finset.sum_congr rfl fun a _ => ?_)
  simp only [block_wq, heads_apply]
  refine congrArg₂ (· * ·) (Finset.sum_congr rfl fun e _ => congrArg (fun w => X (ix3 b i e) * Wq (ix2 e w)) (Fin.ext ?_))
    (congrArg₂ (fun h w => K (ix4 b j h w)) (Fin.ext ?_) (Fin.ext ?_))
  · show d.val * 256 + (64 * (z.val / 64) + a.val) = (d.val * 256 + z.val) / 64 * 64 + a.val; omega
  · show 4 * d.val + (64 * (z.val / 64) + a.val) / 64 = (d.val * 256 + z.val) / 64; omega
  · show (64 * (z.val / 64) + a.val) % 64 = a.val; omega

/-- Finite arguments make finite scores. -/
theorem raw_finite (hX : ∀ i, Fin' (X i)) (hW : ∀ i, Fin' (Wq i)) (hK : ∀ i, Fin' (K i)) (b : Fin 2) (h : Fin 16) (i j : Fin 128) :
    Fin' (Cert.ReferenceIdeal.Plain.rawV X Wq K (ix4 b h i j)) := by
  rw [Cert.ReferenceIdeal.Plain.raw_apply]
  exact fin_mul (fin_sum _ _ fun d => fin_mul (fin_sum _ _ fun e => fin_mul (hX _) (hW _)) (hK _)) eighth

/-- One device's partial product, as its 256 terms of the whole projection. -/
theorem share (hX : ∀ i, Fin' (X i)) (hW : ∀ i, Fin' (Wq i)) (hK : ∀ i, Fin' (K i)) (d : Fin 4) (I : Ins Ideal) (hx : I.x = X)
    (hwq : I.wq = Layout.block ⟨2, ![512, 256]⟩ ⟨2, ![512, 1024]⟩ 1 4 d Wq (by decide)) (hk : I.k = headsV d K) (hv : I.v = headsV d V)
    (hwo : I.wo = Layout.block ⟨2, ![256, 512]⟩ ⟨2, ![1024, 512]⟩ 0 4 d Wo (by decide)) (b : Fin 2) (i : Fin 128) (e : Fin 512) :
    pbF I (ix3 b i e) = ∑ z : Fin 256, (∑ j : Fin 128, V (ix4 b j ⟨(d.val * 256 + z.val) / 64, by omega⟩ ⟨(d.val * 256 + z.val) % 64, by omega⟩)
        * shiftW (fun j => Cert.ReferenceIdeal.Plain.rawV X Wq K (ix4 b ⟨(d.val * 256 + z.val) / 64, by omega⟩ i j)) j) * Wo (ix2 ⟨d.val * 256 + z.val, by omega⟩ e) := by
  rw [pb_apply, hx, hwq, hk, hv, hwo]
  refine Finset.sum_congr rfl fun z _ => ?_
  rw [block_wo]
  refine congrArg (· * Wo (ix2 ⟨d.val * 256 + z.val, by omega⟩ e)) (Finset.sum_congr rfl fun j _ => ?_)
  rw [heads_apply, mul_comm, ← plain_eq_shift _ fun j => raw_finite X Wq K hX hW hK b _ i j]
  refine congrArg₂ (· * ·) (congrArg₂ (fun h w => V (ix4 b j h w)) (Fin.ext ?_) (Fin.ext ?_)) (congrArg (fun s => plainW s j) (funext fun j => score_eq X Wq K d b i j z))
  · show 4 * d.val + z.val / 64 = (d.val * 256 + z.val) / 64; omega
  · show z.val % 64 = (d.val * 256 + z.val) % 64; omega

end Share

/-! ## The claim -/

open Idealize.ShloMosaic.TcCoe in
theorem result_same (m : (ℓ : Loc Cert.KernelIdeal.nD Cert.KernelIdeal.τ Cert.KernelIdeal.sig) → Buf (Elt Ideal) ℓ)
    (X : FVec Ideal Cert.KernelIdeal.S2x128x512 .bf16) (Wq : FVec Ideal ⟨2, ![512, 1024]⟩ .bf16) (K V : FVec Ideal Cert.KernelIdeal.S2x128x16x64 .bf16) (Wo : FVec Ideal ⟨2, ![1024, 512]⟩ .bf16)
    (pre : Pre_KernelIdeal_scores_finite_KernelIdeal m)
    (same : ∀ c : Dev Cert.KernelIdeal.nD,
      m ((c.tc : Thread Cert.KernelIdeal.nD Cert.KernelIdeal.τ).loc Cert.KernelIdeal.main_arg0) = X
      ∧ m ((c.tc : Thread Cert.KernelIdeal.nD Cert.KernelIdeal.τ).loc Cert.KernelIdeal.main_arg1) = Layout.block ⟨2, ![512, 256]⟩ ⟨2, ![512, 1024]⟩ 1 4 c Wq
      ∧ m ((c.tc : Thread Cert.KernelIdeal.nD Cert.KernelIdeal.τ).loc Cert.KernelIdeal.main_arg2) = K
      ∧ m ((c.tc : Thread Cert.KernelIdeal.nD Cert.KernelIdeal.τ).loc Cert.KernelIdeal.main_arg3) = V
      ∧ m ((c.tc : Thread Cert.KernelIdeal.nD Cert.KernelIdeal.τ).loc Cert.KernelIdeal.main_arg4) = Layout.block ⟨2, ![256, 512]⟩ ⟨2, ![1024, 512]⟩ 0 4 c Wo)
    (c : Dev Cert.KernelIdeal.nD) :
    outF (ins m) c = Cert.ReferenceIdeal.Plain.outV (Cert.ReferenceIdeal.Plain.ctxV V (Cert.ReferenceIdeal.Plain.wtV (Cert.ReferenceIdeal.Plain.rowsV Cert.ReferenceIdeal.Plain.maskV)
      (Cert.ReferenceIdeal.Plain.expV (Cert.ReferenceIdeal.Plain.maskedV Cert.ReferenceIdeal.Plain.maskV (Cert.ReferenceIdeal.Plain.rawV X Wq K))))) Wo := by
  have fin := fun d => finite_of_pre _ _ _ _ _ (pre d)
  have hX : ∀ i, Fin' (X i) := by have h := (fin 0).1; rw [(same 0).1] at h; exact h
  have hK : ∀ i, Fin' (K i) := by have h := (fin 0).2.2; rw [(same 0).2.2.1] at h; exact h
  have hW : ∀ i, Fin' (Wq i) := by
    intro i
    obtain ⟨e, w, rfl⟩ : ∃ (e : Fin 512) (w : Fin 1024), i = ix2 e w := ⟨i 0, i 1, (ix2_eta i).symm⟩
    have h := (fin ⟨w.val / 256, by show _ < 4; omega⟩).2.1 (ix2 (n0 := 512) (n1 := 256) e ⟨w.val % 256, by omega⟩)
    rw [(same _).2.1] at h
    have h' := (congrArg Fin' (block_wq Wq ⟨w.val / 256, by omega⟩ e ⟨w.val % 256, by omega⟩)).mp h
    have ew : (⟨w.val / 256 * 256 + w.val % 256, by omega⟩ : Fin 1024) = w := Fin.ext (by show w.val / 256 * 256 + w.val % 256 = w.val; omega)
    exact ew ▸ h'
  funext y
  obtain ⟨b, i, e, rfl⟩ : ∃ (b : Fin 2) (i : Fin 128) (e : Fin 512), y = ix3 b i e := ⟨y 0, y 1, y 2, (ix3_eta y).symm⟩
  rw [out_apply, Cert.ReferenceIdeal.Plain.result_apply, Fin.sum_univ_tiles 4 256 rfl]
  refine Finset.sum_congr rfl fun d _ => ?_
  exact share X Wq K V Wo hX hW hK d (ins m d) ((ins_x m d).trans (same d).1) ((ins_wq m d).trans (same d).2.1)
    ((ins_k m d).trans (congrArg (headsV d) (same d).2.2.1)) ((ins_v m d).trans (congrArg (headsV d) (same d).2.2.2.1)) ((ins_wo m d).trans (same d).2.2.2.2) _ _ _

theorem algebraic : Cert.algebraic_KernelIdeal_ReferenceIdeal_pre_scores_finite_KernelIdeal := by
  intro m g m' g' pre same
  refine ⟨Cert.ReferenceIdeal.Value.res_main_v48 m' 0, ?_, ?_⟩
  · refine (θ_run Cert.KernelIdeal.defs _ _).mono (fun r h c => ?_) (run_main (F := Ideal) m g)
    obtain ⟨ha, hv⟩ := h.1 c
    exact ⟨hv.trans ((result_same m _ _ _ _ _ pre same c).trans (Cert.ReferenceIdeal.Plain.result_named m' 0).symm), ha⟩
  · exact (θ_run Cert.ReferenceIdeal.defs _ _).mono (fun r h => h 0) (Cert.ReferenceIdeal.Value.run (F := Ideal) m' g')

end Cert.Proof

end
-- ==== Proof.lean ====
/- The claims, put together. -/
module

public import proofs.«01_k».proof.Defs
public import proofs.«01_k».proof.Proof.Algebraic
public import proofs.«01_k».proof.Proof.Gen.Pre_scores_finite_KernelIdeal
public import proofs.«01_k».proof.Proof.Gen.Pre_scores_finite_ReferenceIdeal

@[expose] public section

noncomputable section

namespace Cert.Proof

theorem claim : Cert.Claim :=
  ⟨Cert.Kernel.Gen.facts, Cert.KernelIdeal.Gen.facts, Cert.ReferenceIdeal.Gen.facts,
    Cert.Pre_scores_finite_KernelIdeal.Gen.facts, Cert.Pre_scores_finite_ReferenceIdeal.Gen.facts,
    frame_kernel, frame_kernelIdeal, fun m ρ _ => frame_kernelIdeal m ρ trivial,
    frame_referenceIdeal, fun m ρ _ => frame_referenceIdeal m ρ trivial, trivial, algebraic⟩

end Cert.Proof

end
